-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_partial_bounded_KernelIdeal [hPre_partial_bounded_KernelIdeal : Cert.Pre_partial_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_partial_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partial_bounded_ReferenceIdeal [hPre_partial_bounded_ReferenceIdeal : Cert.Pre_partial_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partial_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_partial_bounded_KernelIdeal [hKernelIdeal : Cert.KernelIdeal.Facts] [hPre_partial_bounded_KernelIdeal : Cert.Pre_partial_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_partial_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_partial_bounded_ReferenceIdeal [hReferenceIdeal : Cert.ReferenceIdeal.Facts] [hPre_partial_bounded_ReferenceIdeal : Cert.Pre_partial_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partial_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_partial_bounded_KernelIdeal [hKernelIdeal : Cert.KernelIdeal.Facts] [hReferenceIdeal : Cert.ReferenceIdeal.Facts] [hPre_partial_bounded_KernelIdeal : Cert.Pre_partial_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_partial_bounded_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_partial_bounded_KernelIdeal : Cert.Pre_partial_bounded_KernelIdeal.Facts) (hPre_partial_bounded_ReferenceIdeal : Cert.Pre_partial_bounded_ReferenceIdeal.Facts),
    quiescent_Kernel (hKernel := hKernel)
    ∧ quiescent_KernelIdeal (hKernelIdeal := hKernelIdeal)
    ∧ quiescent_KernelIdeal_pre_partial_bounded_KernelIdeal (hKernelIdeal := hKernelIdeal) (hPre_partial_bounded_KernelIdeal := hPre_partial_bounded_KernelIdeal)
    ∧ quiescent_ReferenceIdeal (hReferenceIdeal := hReferenceIdeal)
    ∧ quiescent_ReferenceIdeal_pre_partial_bounded_ReferenceIdeal (hReferenceIdeal := hReferenceIdeal) (hPre_partial_bounded_ReferenceIdeal := hPre_partial_bounded_ReferenceIdeal)
    ∧ preserves_Kernel_KernelIdeal
    ∧ algebraic_KernelIdeal_ReferenceIdeal_pre_partial_bounded_KernelIdeal (hKernelIdeal := hKernelIdeal) (hReferenceIdeal := hReferenceIdeal) (hPre_partial_bounded_KernelIdeal := hPre_partial_bounded_KernelIdeal)
-- ==== Pre_partial_bounded_KernelIdeal.lean ====
abbrev S1024x64 : Shape := ⟨2, ![1024, 64]⟩
abbrev S64x1024 : Shape := ⟨2, ![64, 1024]⟩
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x64_S64x1024_S1024x1024_1_0_0_1_n_n_wf : DotDims.WF S1024x64 S64x1024 S1024x1024 [1] [0] [0] [1] [] []

variable [Facts]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def fn {F : FTy → Type} [FloatOps F] (main_arg0 : FVec F S1024x64 .f32) (main_arg1 : FVec F S64x1024 .f32) : IVec S1024x1024 1 :=
  let main_v0 : FVec F S1024x1024 .f32 := (fun l r => Host.dotGeneral dot_S1024x64_S64x1024_S1024x1024_1_0_0_1_n_n none l r) main_arg0 main_arg1
  let main_v1 : FVec F S1024x1024 .f32 := Host.absf main_v0
  let main_cst : FVec F S_ .f32 := constant S_ .f32 0x40700000#32
  let main_v2 : FVec F S1024x1024 .f32 := broadcastInDim S1024x1024 ![] bcast_S_S1024x1024 main_cst
  let main_v3 : IVec S1024x1024 1 := cmpf .ole main_v1 main_v2
  main_v3
-- ==== Pre_partial_bounded_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x40700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S1024x64 : Shape := ⟨2, ![1024, 64]⟩
abbrev S64x1024 : Shape := ⟨2, ![64, 1024]⟩
abbrev S1024x1024 : Shape := ⟨2, ![1024, 1024]⟩
abbrev S8x512x128 : Shape := ⟨3, ![8, 512, 128]⟩
abbrev S8x256x128 : Shape := ⟨3, ![8, 256, 128]⟩
abbrev S8x3x64x128 : Shape := ⟨4, ![8, 3, 64, 128]⟩
abbrev S2x8 : Shape := ⟨2, ![2, 8]⟩
abbrev S8x3 : Shape := ⟨2, ![8, 3]⟩
abbrev S_ : Shape := ⟨0, ![]⟩
abbrev S1x1 : Shape := ⟨2, ![1, 1]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S1x1x64x128 : Shape := ⟨4, ![1, 1, 64, 128]⟩
abbrev S64x128 : Shape := ⟨2, ![64, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S1024x1024, .f32⟩
  | .local _ .vmem, ⟨0, _⟩ => ⟨S1024x64, .f32⟩
  | .local _ .vmem, ⟨1, _⟩ => ⟨S64x1024, .f32⟩
  | .local _ .vmem, ⟨2, _⟩ => ⟨S1024x1024, .f32⟩
  | .local _ .vmem, ⟨3, _⟩ => ⟨S8x512x128, .f32⟩
  | .local _ .vmem, ⟨4, _⟩ => ⟨S8x256x128, .f32⟩
  | .local _ .vmem, ⟨5, _⟩ => ⟨S8x3x64x128, .f32⟩
  | _, _ => ⟨S1024x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 163 → Bool
  | ⟨i, _⟩ => dmaSemScopedAt i

abbrev sig : RefSig :=
  (ofTc nBuf bufTy 1 163 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_42 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_41 : BitVec 32 := 1#32
  let v80 : BitVec 32 := Scalar.muli v36 c1_i32_41
  let v81 : BitVec 32 := Scalar.addi c0_i32_42 v80
  v81.toNat
def k0_dev2 (d0 : Dev nD) : Nat :=
  let c0_i32_45 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_44 : BitVec 32 := 1#32
  let v82 : BitVec 32 := Scalar.muli v39 c1_i32_44
  let v83 : BitVec 32 := Scalar.addi c0_i32_45 v82
  v83.toNat
def k0_dev3 (d0 : Dev nD) : Nat :=
  let c0_i32_48 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_47 : BitVec 32 := 1#32
  let v84 : BitVec 32 := Scalar.muli v52 c1_i32_47
  let v85 : BitVec 32 := Scalar.addi c0_i32_48 v84
  v85.toNat
def k0_dev4 (d0 : Dev nD) : Nat :=
  let c0_i32_51 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_50 : BitVec 32 := 1#32
  let v86 : BitVec 32 := Scalar.muli v65 c1_i32_50
  let v87 : BitVec 32 := Scalar.addi c0_i32_51 v86
  v87.toNat
def k0_dev5 (d0 : Dev nD) : Nat :=
  let c0_i32_54 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_53 : BitVec 32 := 1#32
  let v88 : BitVec 32 := Scalar.muli v78 c1_i32_53
  let v89 : BitVec 32 := Scalar.addi c0_i32_54 v88
  v89.toNat
def k0_off1 (d0 : Dev nD) : Fin 2 → Nat :=
  let c0_i32_61 : BitVec 32 := 0#32
  let c1_i32_60 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let v96 : BitVec 32 := Scalar.subi c1_i32_60 v32
  let c512_i32 : BitVec 32 := 512#32
  let v97 : BitVec 32 := Scalar.muli v96 c512_i32
  let v98 : BitVec 32 := Scalar.addi c0_i32_61 v97
  let c0_i32_71 : BitVec 32 := 0#32
  ![v98.toNat, 0]
def k0_dev6 (d0 : Dev nD) : Nat :=
  let c0_i32_68 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_67 : BitVec 32 := 1#32
  let v99 : BitVec 32 := Scalar.muli v36 c1_i32_67
  let v100 : BitVec 32 := Scalar.addi c0_i32_68 v99
  v100.toNat
def k0_off2 (d0 : Dev nD) : Fin 2 → Nat :=
  let c0_i32_74 : BitVec 32 := 0#32
  let c1_i32_72 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let v108 : BitVec 32 := Scalar.subi c1_i32_72 v32
  let c512_i32_73 : BitVec 32 := 512#32
  let v109 : BitVec 32 := Scalar.muli v108 c512_i32_73
  let v110 : BitVec 32 := Scalar.addi c0_i32_74 v109
  let c128_i32 : BitVec 32 := 128#32
  ![v110.toNat, 128]
def k0_dev7 (d0 : Dev nD) : Nat :=
  let c0_i32_81 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_80 : BitVec 32 := 1#32
  let v111 : BitVec 32 := Scalar.muli v36 c1_i32_80
  let v112 : BitVec 32 := Scalar.addi c0_i32_81 v111
  v112.toNat
def k0_off3 (d0 : Dev nD) : Fin 2 → Nat :=
  let c0_i32_86 : BitVec 32 := 0#32
  let c1_i32_84 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let v120 : BitVec 32 := Scalar.subi c1_i32_84 v32
  let c512_i32_85 : BitVec 32 := 512#32
  let v121 : BitVec 32 := Scalar.muli v120 c512_i32_85
  let v122 : BitVec 32 := Scalar.addi c0_i32_86 v121
  let c256_i32 : BitVec 32 := 256#32
  ![v122.toNat, 256]
def k0_dev8 (d0 : Dev nD) : Nat :=
  let c0_i32_93 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_92 : BitVec 32 := 1#32
  let v123 : BitVec 32 := Scalar.muli v36 c1_i32_92
  let v124 : BitVec 32 := Scalar.addi c0_i32_93 v123
  v124.toNat
def k0_off4 (d0 : Dev nD) : Fin 2 → Nat :=
  let c0_i32_98 : BitVec 32 := 0#32
  let c1_i32_96 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let v132 : BitVec 32 := Scalar.subi c1_i32_96 v32
  let c512_i32_97 : BitVec 32 := 512#32
  let v133 : BitVec 32 := Scalar.muli v132 c512_i32_97
  let v134 : BitVec 32 := Scalar.addi c0_i32_98 v133
  let c384_i32 : BitVec 32 := 384#32
  ![v134.toNat, 384]
def k0_dev9 (d0 : Dev nD) : Nat :=
  let c0_i32_105 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_104 : BitVec 32 := 1#32
  let v135 : BitVec 32 := Scalar.muli v36 c1_i32_104
  let v136 : BitVec 32 := Scalar.addi c0_i32_105 v135
  v136.toNat
def k0_off5 (d0 : Dev nD) : Fin 2 → Nat :=
  let c0_i32_110 : BitVec 32 := 0#32
  let c1_i32_108 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let v144 : BitVec 32 := Scalar.subi c1_i32_108 v33
  let c512_i32_109 : BitVec 32 := 512#32
  let v145 : BitVec 32 := Scalar.muli v144 c512_i32_109
  let v146 : BitVec 32 := Scalar.addi c0_i32_110 v145
  let c512_i32_120 : BitVec 32 := 512#32
  ![v146.toNat, 512]
def k0_dev10 (d0 : Dev nD) : Nat :=
  let c0_i32_117 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_116 : BitVec 32 := 1#32
  let v147 : BitVec 32 := Scalar.muli v39 c1_i32_116
  let v148 : BitVec 32 := Scalar.addi c0_i32_117 v147
  v148.toNat
def k0_off6 (d0 : Dev nD) : Fin 2 → Nat :=
  let c0_i32_123 : BitVec 32 := 0#32
  let c1_i32_121 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let v156 : BitVec 32 := Scalar.subi c1_i32_121 v33
  let c512_i32_122 : BitVec 32 := 512#32
  let v157 : BitVec 32 := Scalar.muli v156 c512_i32_122
  let v158 : BitVec 32 := Scalar.addi c0_i32_123 v157
  let c640_i32 : BitVec 32 := 640#32
  ![v158.toNat, 640]
def k0_dev11 (d0 : Dev nD) : Nat :=
  let c0_i32_130 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_129 : BitVec 32 := 1#32
  let v159 : BitVec 32 := Scalar.muli v39 c1_i32_129
  let v160 : BitVec 32 := Scalar.addi c0_i32_130 v159
  v160.toNat
def k0_off7 (d0 : Dev nD) : Fin 2 → Nat :=
  let c0_i32_135 : BitVec 32 := 0#32
  let c1_i32_133 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let v168 : BitVec 32 := Scalar.subi c1_i32_133 v33
  let c512_i32_134 : BitVec 32 := 512#32
  let v169 : BitVec 32 := Scalar.muli v168 c512_i32_134
  let v170 : BitVec 32 := Scalar.addi c0_i32_135 v169
  let c768_i32 : BitVec 32 := 768#32
  ![v170.toNat, 768]
def k0_dev12 (d0 : Dev nD) : Nat :=
  let c0_i32_141 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_140 : BitVec 32 := 1#32
  let v171 : BitVec 32 := Scalar.muli v39 c1_i32_140
  let v172 : BitVec 32 := Scalar.addi c0_i32_141 v171
  v172.toNat
def k0_off8 (d0 : Dev nD) : Fin 2 → Nat :=
  let c0_i32_146 : BitVec 32 := 0#32
  let c1_i32_144 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let v180 : BitVec 32 := Scalar.subi c1_i32_144 v33
  let c512_i32_145 : BitVec 32 := 512#32
  let v181 : BitVec 32 := Scalar.muli v180 c512_i32_145
  let v182 : BitVec 32 := Scalar.addi c0_i32_146 v181
  let c896_i32 : BitVec 32 := 896#32
  ![v182.toNat, 896]
def k0_dev13 (d0 : Dev nD) : Nat :=
  let c0_i32_152 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_151 : BitVec 32 := 1#32
  let v183 : BitVec 32 := Scalar.muli v39 c1_i32_151
  let v184 : BitVec 32 := Scalar.addi c0_i32_152 v183
  v184.toNat
def k0_off9 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let v206 : Index := Scalar.indexCast v193
  let c0_176 : Index := 0#32
  ![v206.toNat, 0]
def k0_off10 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_181 : BitVec 32 := 1#32
  let c1_i32_13 : BitVec 32 := 1#32
  let v33 : BitVec 32 := Scalar.shrsi v29 c1_i32_13
  let v214 : BitVec 32 := Scalar.subi c1_i32_181 v33
  let c256_i32_182 : BitVec 32 := 256#32
  let v215 : BitVec 32 := Scalar.muli v214 c256_i32_182
  let v216 : BitVec 32 := Scalar.addi v193 v215
  let c0_i32_192 : BitVec 32 := 0#32
  ![v216.toNat, 0]
def k0_dev14 (d0 : Dev nD) : Nat :=
  let c0_i32_189 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_188 : BitVec 32 := 1#32
  let v217 : BitVec 32 := Scalar.muli v39 c1_i32_188
  let v218 : BitVec 32 := Scalar.addi c0_i32_189 v217
  v218.toNat
def k0_off11 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let v238 : Index := Scalar.indexCast v193
  let c128 : Index := 128#32
  ![v238.toNat, 128]
def k0_off12 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_215 : BitVec 32 := 1#32
  let c1_i32_13 : BitVec 32 := 1#32
  let v33 : BitVec 32 := Scalar.shrsi v29 c1_i32_13
  let v246 : BitVec 32 := Scalar.subi c1_i32_215 v33
  let c256_i32_216 : BitVec 32 := 256#32
  let v247 : BitVec 32 := Scalar.muli v246 c256_i32_216
  let v248 : BitVec 32 := Scalar.addi v193 v247
  let c128_i32_226 : BitVec 32 := 128#32
  ![v248.toNat, 128]
def k0_dev15 (d0 : Dev nD) : Nat :=
  let c0_i32_223 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_222 : BitVec 32 := 1#32
  let v249 : BitVec 32 := Scalar.muli v39 c1_i32_222
  let v250 : BitVec 32 := Scalar.addi c0_i32_223 v249
  v250.toNat
def k0_off13 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let v270 : Index := Scalar.indexCast v193
  let c256 : Index := 256#32
  ![v270.toNat, 256]
def k0_off14 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_249 : BitVec 32 := 1#32
  let c1_i32_13 : BitVec 32 := 1#32
  let v33 : BitVec 32 := Scalar.shrsi v29 c1_i32_13
  let v278 : BitVec 32 := Scalar.subi c1_i32_249 v33
  let c256_i32_250 : BitVec 32 := 256#32
  let v279 : BitVec 32 := Scalar.muli v278 c256_i32_250
  let v280 : BitVec 32 := Scalar.addi v193 v279
  let c256_i32_260 : BitVec 32 := 256#32
  ![v280.toNat, 256]
def k0_dev16 (d0 : Dev nD) : Nat :=
  let c0_i32_257 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_256 : BitVec 32 := 1#32
  let v281 : BitVec 32 := Scalar.muli v39 c1_i32_256
  let v282 : BitVec 32 := Scalar.addi c0_i32_257 v281
  v282.toNat
def k0_off15 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let v302 : Index := Scalar.indexCast v193
  let c384 : Index := 384#32
  ![v302.toNat, 384]
def k0_off16 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_283 : BitVec 32 := 1#32
  let c1_i32_13 : BitVec 32 := 1#32
  let v33 : BitVec 32 := Scalar.shrsi v29 c1_i32_13
  let v310 : BitVec 32 := Scalar.subi c1_i32_283 v33
  let c256_i32_284 : BitVec 32 := 256#32
  let v311 : BitVec 32 := Scalar.muli v310 c256_i32_284
  let v312 : BitVec 32 := Scalar.addi v193 v311
  let c384_i32_294 : BitVec 32 := 384#32
  ![v312.toNat, 384]
def k0_dev17 (d0 : Dev nD) : Nat :=
  let c0_i32_291 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_290 : BitVec 32 := 1#32
  let v313 : BitVec 32 := Scalar.muli v39 c1_i32_290
  let v314 : BitVec 32 := Scalar.addi c0_i32_291 v313
  v314.toNat
def k0_off17 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let v336 : Index := Scalar.indexCast v323
  let c512 : Index := 512#32
  ![v336.toNat, 512]
def k0_off18 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_319 : BitVec 32 := 1#32
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let v344 : BitVec 32 := Scalar.subi c1_i32_319 v32
  let c256_i32_320 : BitVec 32 := 256#32
  let v345 : BitVec 32 := Scalar.muli v344 c256_i32_320
  let v346 : BitVec 32 := Scalar.addi v323 v345
  let c512_i32_330 : BitVec 32 := 512#32
  ![v346.toNat, 512]
def k0_dev18 (d0 : Dev nD) : Nat :=
  let c0_i32_327 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_326 : BitVec 32 := 1#32
  let v347 : BitVec 32 := Scalar.muli v36 c1_i32_326
  let v348 : BitVec 32 := Scalar.addi c0_i32_327 v347
  v348.toNat
def k0_off19 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let v368 : Index := Scalar.indexCast v323
  let c640 : Index := 640#32
  ![v368.toNat, 640]
def k0_off20 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_353 : BitVec 32 := 1#32
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let v376 : BitVec 32 := Scalar.subi c1_i32_353 v32
  let c256_i32_354 : BitVec 32 := 256#32
  let v377 : BitVec 32 := Scalar.muli v376 c256_i32_354
  let v378 : BitVec 32 := Scalar.addi v323 v377
  let c640_i32_364 : BitVec 32 := 640#32
  ![v378.toNat, 640]
def k0_dev19 (d0 : Dev nD) : Nat :=
  let c0_i32_361 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_360 : BitVec 32 := 1#32
  let v379 : BitVec 32 := Scalar.muli v36 c1_i32_360
  let v380 : BitVec 32 := Scalar.addi c0_i32_361 v379
  v380.toNat
def k0_off21 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let v400 : Index := Scalar.indexCast v323
  let c768 : Index := 768#32
  ![v400.toNat, 768]
def k0_off22 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_387 : BitVec 32 := 1#32
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let v408 : BitVec 32 := Scalar.subi c1_i32_387 v32
  let c256_i32_388 : BitVec 32 := 256#32
  let v409 : BitVec 32 := Scalar.muli v408 c256_i32_388
  let v410 : BitVec 32 := Scalar.addi v323 v409
  let c768_i32_398 : BitVec 32 := 768#32
  ![v410.toNat, 768]
def k0_dev20 (d0 : Dev nD) : Nat :=
  let c0_i32_395 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_394 : BitVec 32 := 1#32
  let v411 : BitVec 32 := Scalar.muli v36 c1_i32_394
  let v412 : BitVec 32 := Scalar.addi c0_i32_395 v411
  v412.toNat
def k0_off23 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let v432 : Index := Scalar.indexCast v323
  let c896 : Index := 896#32
  ![v432.toNat, 896]
def k0_off24 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_421 : BitVec 32 := 1#32
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let v440 : BitVec 32 := Scalar.subi c1_i32_421 v32
  let c256_i32_422 : BitVec 32 := 256#32
  let v441 : BitVec 32 := Scalar.muli v440 c256_i32_422
  let v442 : BitVec 32 := Scalar.addi v323 v441
  let c896_i32_432 : BitVec 32 := 896#32
  ![v442.toNat, 896]
def k0_dev21 (d0 : Dev nD) : Nat :=
  let c0_i32_429 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_428 : BitVec 32 := 1#32
  let v443 : BitVec 32 := Scalar.muli v36 c1_i32_428
  let v444 : BitVec 32 := Scalar.addi c0_i32_429 v443
  v444.toNat
def k0_off25 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let v466 : Index := Scalar.indexCast v453
  let c0_453 : Index := 0#32
  ![v466.toNat, 0]
def k0_off26 (d0 : Dev nD) (c0_i32_458 : BitVec 32) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v474 : BitVec 32 := Scalar.addi v19 c0_i32_458
  let c1_i32_459 : BitVec 32 := 1#32
  let v475 : BitVec 32 := Scalar.addi v474 c1_i32_459
  let c4_i32_460 : BitVec 32 := 4#32
  let c0_i32_461 : BitVec 32 := 0#32
  let v476 : BitVec 1 := Scalar.cmpi .eq c4_i32_460 c0_i32_461
  let c1_i32_462 : BitVec 32 := 1#32
  let v477 : BitVec 32 := Scalar.select v476 c1_i32_462 c4_i32_460
  let v478 : BitVec 32 := Scalar.remsi v475 v477
  let c0_i32_464 : BitVec 32 := 0#32
  let v480 : BitVec 1 := Scalar.cmpi .slt v478 c0_i32_464
  let c0_i32_465 : BitVec 32 := 0#32
  let v481 : BitVec 1 := Scalar.cmpi .slt v477 c0_i32_465
  let v482 : BitVec 1 := Scalar.xori v480 v481
  let c0_i32_463 : BitVec 32 := 0#32
  let v479 : BitVec 1 := Scalar.cmpi .ne v478 c0_i32_463
  let v483 : BitVec 1 := Scalar.andi v482 v479
  let v484 : BitVec 32 := Scalar.addi v478 v477
  let v485 : BitVec 32 := Scalar.select v483 v484 v478
  let c64_i32 : BitVec 32 := 64#32
  let v486 : BitVec 32 := Scalar.muli v485 c64_i32
  let v487 : BitVec 32 := Scalar.addi v453 v486
  let c0_i32_476 : BitVec 32 := 0#32
  ![v487.toNat, 0]
def k0_dev22 (d0 : Dev nD) : Nat :=
  let c0_i32_473 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_472 : BitVec 32 := 1#32
  let v488 : BitVec 32 := Scalar.muli v52 c1_i32_472
  let v489 : BitVec 32 := Scalar.addi c0_i32_473 v488
  v489.toNat
def k0_dev23 (d0 : Dev nD) : Nat :=
  let c0_i32_493 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_492 : BitVec 32 := 1#32
  let v511 : BitVec 32 := Scalar.muli v65 c1_i32_492
  let v512 : BitVec 32 := Scalar.addi c0_i32_493 v511
  v512.toNat
def k0_dev24 (d0 : Dev nD) : Nat :=
  let c0_i32_513 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_512 : BitVec 32 := 1#32
  let v534 : BitVec 32 := Scalar.muli v78 c1_i32_512
  let v535 : BitVec 32 := Scalar.addi c0_i32_513 v534
  v535.toNat
def k0_off27 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let v555 : Index := Scalar.indexCast v453
  let c128_536 : Index := 128#32
  ![v555.toNat, 128]
def k0_off28 (d0 : Dev nD) (c0_i32_541 : BitVec 32) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v563 : BitVec 32 := Scalar.addi v19 c0_i32_541
  let c1_i32_542 : BitVec 32 := 1#32
  let v564 : BitVec 32 := Scalar.addi v563 c1_i32_542
  let c4_i32_543 : BitVec 32 := 4#32
  let c0_i32_544 : BitVec 32 := 0#32
  let v565 : BitVec 1 := Scalar.cmpi .eq c4_i32_543 c0_i32_544
  let c1_i32_545 : BitVec 32 := 1#32
  let v566 : BitVec 32 := Scalar.select v565 c1_i32_545 c4_i32_543
  let v567 : BitVec 32 := Scalar.remsi v564 v566
  let c0_i32_547 : BitVec 32 := 0#32
  let v569 : BitVec 1 := Scalar.cmpi .slt v567 c0_i32_547
  let c0_i32_548 : BitVec 32 := 0#32
  let v570 : BitVec 1 := Scalar.cmpi .slt v566 c0_i32_548
  let v571 : BitVec 1 := Scalar.xori v569 v570
  let c0_i32_546 : BitVec 32 := 0#32
  let v568 : BitVec 1 := Scalar.cmpi .ne v567 c0_i32_546
  let v572 : BitVec 1 := Scalar.andi v571 v568
  let v573 : BitVec 32 := Scalar.addi v567 v566
  let v574 : BitVec 32 := Scalar.select v572 v573 v567
  let c64_i32_549 : BitVec 32 := 64#32
  let v575 : BitVec 32 := Scalar.muli v574 c64_i32_549
  let v576 : BitVec 32 := Scalar.addi v453 v575
  let c128_i32_560 : BitVec 32 := 128#32
  ![v576.toNat, 128]
def k0_dev25 (d0 : Dev nD) : Nat :=
  let c0_i32_557 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_556 : BitVec 32 := 1#32
  let v577 : BitVec 32 := Scalar.muli v52 c1_i32_556
  let v578 : BitVec 32 := Scalar.addi c0_i32_557 v577
  v578.toNat
def k0_dev26 (d0 : Dev nD) : Nat :=
  let c0_i32_577 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_576 : BitVec 32 := 1#32
  let v600 : BitVec 32 := Scalar.muli v65 c1_i32_576
  let v601 : BitVec 32 := Scalar.addi c0_i32_577 v600
  v601.toNat
def k0_dev27 (d0 : Dev nD) : Nat :=
  let c0_i32_597 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_596 : BitVec 32 := 1#32
  let v623 : BitVec 32 := Scalar.muli v78 c1_i32_596
  let v624 : BitVec 32 := Scalar.addi c0_i32_597 v623
  v624.toNat
def k0_off29 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let v644 : Index := Scalar.indexCast v453
  let c256_620 : Index := 256#32
  ![v644.toNat, 256]
def k0_off30 (d0 : Dev nD) (c0_i32_625 : BitVec 32) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v652 : BitVec 32 := Scalar.addi v19 c0_i32_625
  let c1_i32_626 : BitVec 32 := 1#32
  let v653 : BitVec 32 := Scalar.addi v652 c1_i32_626
  let c4_i32_627 : BitVec 32 := 4#32
  let c0_i32_628 : BitVec 32 := 0#32
  let v654 : BitVec 1 := Scalar.cmpi .eq c4_i32_627 c0_i32_628
  let c1_i32_629 : BitVec 32 := 1#32
  let v655 : BitVec 32 := Scalar.select v654 c1_i32_629 c4_i32_627
  let v656 : BitVec 32 := Scalar.remsi v653 v655
  let c0_i32_631 : BitVec 32 := 0#32
  let v658 : BitVec 1 := Scalar.cmpi .slt v656 c0_i32_631
  let c0_i32_632 : BitVec 32 := 0#32
  let v659 : BitVec 1 := Scalar.cmpi .slt v655 c0_i32_632
  let v660 : BitVec 1 := Scalar.xori v658 v659
  let c0_i32_630 : BitVec 32 := 0#32
  let v657 : BitVec 1 := Scalar.cmpi .ne v656 c0_i32_630
  let v661 : BitVec 1 := Scalar.andi v660 v657
  let v662 : BitVec 32 := Scalar.addi v656 v655
  let v663 : BitVec 32 := Scalar.select v661 v662 v656
  let c64_i32_633 : BitVec 32 := 64#32
  let v664 : BitVec 32 := Scalar.muli v663 c64_i32_633
  let v665 : BitVec 32 := Scalar.addi v453 v664
  let c256_i32_644 : BitVec 32 := 256#32
  ![v665.toNat, 256]
def k0_dev28 (d0 : Dev nD) : Nat :=
  let c0_i32_641 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_640 : BitVec 32 := 1#32
  let v666 : BitVec 32 := Scalar.muli v52 c1_i32_640
  let v667 : BitVec 32 := Scalar.addi c0_i32_641 v666
  v667.toNat
def k0_dev29 (d0 : Dev nD) : Nat :=
  let c0_i32_661 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_660 : BitVec 32 := 1#32
  let v689 : BitVec 32 := Scalar.muli v65 c1_i32_660
  let v690 : BitVec 32 := Scalar.addi c0_i32_661 v689
  v690.toNat
def k0_dev30 (d0 : Dev nD) : Nat :=
  let c0_i32_681 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_680 : BitVec 32 := 1#32
  let v712 : BitVec 32 := Scalar.muli v78 c1_i32_680
  let v713 : BitVec 32 := Scalar.addi c0_i32_681 v712
  v713.toNat
def k0_off31 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let v733 : Index := Scalar.indexCast v453
  let c384_704 : Index := 384#32
  ![v733.toNat, 384]
def k0_off32 (d0 : Dev nD) (c0_i32_709 : BitVec 32) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v741 : BitVec 32 := Scalar.addi v19 c0_i32_709
  let c1_i32_710 : BitVec 32 := 1#32
  let v742 : BitVec 32 := Scalar.addi v741 c1_i32_710
  let c4_i32_711 : BitVec 32 := 4#32
  let c0_i32_712 : BitVec 32 := 0#32
  let v743 : BitVec 1 := Scalar.cmpi .eq c4_i32_711 c0_i32_712
  let c1_i32_713 : BitVec 32 := 1#32
  let v744 : BitVec 32 := Scalar.select v743 c1_i32_713 c4_i32_711
  let v745 : BitVec 32 := Scalar.remsi v742 v744
  let c0_i32_715 : BitVec 32 := 0#32
  let v747 : BitVec 1 := Scalar.cmpi .slt v745 c0_i32_715
  let c0_i32_716 : BitVec 32 := 0#32
  let v748 : BitVec 1 := Scalar.cmpi .slt v744 c0_i32_716
  let v749 : BitVec 1 := Scalar.xori v747 v748
  let c0_i32_714 : BitVec 32 := 0#32
  let v746 : BitVec 1 := Scalar.cmpi .ne v745 c0_i32_714
  let v750 : BitVec 1 := Scalar.andi v749 v746
  let v751 : BitVec 32 := Scalar.addi v745 v744
  let v752 : BitVec 32 := Scalar.select v750 v751 v745
  let c64_i32_717 : BitVec 32 := 64#32
  let v753 : BitVec 32 := Scalar.muli v752 c64_i32_717
  let v754 : BitVec 32 := Scalar.addi v453 v753
  let c384_i32_728 : BitVec 32 := 384#32
  ![v754.toNat, 384]
def k0_dev31 (d0 : Dev nD) : Nat :=
  let c0_i32_725 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_724 : BitVec 32 := 1#32
  let v755 : BitVec 32 := Scalar.muli v52 c1_i32_724
  let v756 : BitVec 32 := Scalar.addi c0_i32_725 v755
  v756.toNat
def k0_dev32 (d0 : Dev nD) : Nat :=
  let c0_i32_745 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_744 : BitVec 32 := 1#32
  let v778 : BitVec 32 := Scalar.muli v65 c1_i32_744
  let v779 : BitVec 32 := Scalar.addi c0_i32_745 v778
  v779.toNat
def k0_dev33 (d0 : Dev nD) : Nat :=
  let c0_i32_765 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_764 : BitVec 32 := 1#32
  let v801 : BitVec 32 := Scalar.muli v78 c1_i32_764
  let v802 : BitVec 32 := Scalar.addi c0_i32_765 v801
  v802.toNat
def k0_off33 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let v824 : Index := Scalar.indexCast v811
  let c512_789 : Index := 512#32
  ![v824.toNat, 512]
def k0_off34 (d0 : Dev nD) (c0_i32_794 : BitVec 32) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v832 : BitVec 32 := Scalar.addi v19 c0_i32_794
  let c1_i32_795 : BitVec 32 := 1#32
  let v833 : BitVec 32 := Scalar.addi v832 c1_i32_795
  let c4_i32_796 : BitVec 32 := 4#32
  let c0_i32_797 : BitVec 32 := 0#32
  let v834 : BitVec 1 := Scalar.cmpi .eq c4_i32_796 c0_i32_797
  let c1_i32_798 : BitVec 32 := 1#32
  let v835 : BitVec 32 := Scalar.select v834 c1_i32_798 c4_i32_796
  let v836 : BitVec 32 := Scalar.remsi v833 v835
  let c0_i32_800 : BitVec 32 := 0#32
  let v838 : BitVec 1 := Scalar.cmpi .slt v836 c0_i32_800
  let c0_i32_801 : BitVec 32 := 0#32
  let v839 : BitVec 1 := Scalar.cmpi .slt v835 c0_i32_801
  let v840 : BitVec 1 := Scalar.xori v838 v839
  let c0_i32_799 : BitVec 32 := 0#32
  let v837 : BitVec 1 := Scalar.cmpi .ne v836 c0_i32_799
  let v841 : BitVec 1 := Scalar.andi v840 v837
  let v842 : BitVec 32 := Scalar.addi v836 v835
  let v843 : BitVec 32 := Scalar.select v841 v842 v836
  let c64_i32_802 : BitVec 32 := 64#32
  let v844 : BitVec 32 := Scalar.muli v843 c64_i32_802
  let v845 : BitVec 32 := Scalar.addi v811 v844
  let c512_i32_813 : BitVec 32 := 512#32
  ![v845.toNat, 512]
def k0_dev34 (d0 : Dev nD) : Nat :=
  let c0_i32_810 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_809 : BitVec 32 := 1#32
  let v846 : BitVec 32 := Scalar.muli v52 c1_i32_809
  let v847 : BitVec 32 := Scalar.addi c0_i32_810 v846
  v847.toNat
def k0_dev35 (d0 : Dev nD) : Nat :=
  let c0_i32_830 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_829 : BitVec 32 := 1#32
  let v869 : BitVec 32 := Scalar.muli v65 c1_i32_829
  let v870 : BitVec 32 := Scalar.addi c0_i32_830 v869
  v870.toNat
def k0_dev36 (d0 : Dev nD) : Nat :=
  let c0_i32_850 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_849 : BitVec 32 := 1#32
  let v892 : BitVec 32 := Scalar.muli v78 c1_i32_849
  let v893 : BitVec 32 := Scalar.addi c0_i32_850 v892
  v893.toNat
def k0_off35 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let v913 : Index := Scalar.indexCast v811
  let c640_873 : Index := 640#32
  ![v913.toNat, 640]
def k0_off36 (d0 : Dev nD) (c0_i32_878 : BitVec 32) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v921 : BitVec 32 := Scalar.addi v19 c0_i32_878
  let c1_i32_879 : BitVec 32 := 1#32
  let v922 : BitVec 32 := Scalar.addi v921 c1_i32_879
  let c4_i32_880 : BitVec 32 := 4#32
  let c0_i32_881 : BitVec 32 := 0#32
  let v923 : BitVec 1 := Scalar.cmpi .eq c4_i32_880 c0_i32_881
  let c1_i32_882 : BitVec 32 := 1#32
  let v924 : BitVec 32 := Scalar.select v923 c1_i32_882 c4_i32_880
  let v925 : BitVec 32 := Scalar.remsi v922 v924
  let c0_i32_884 : BitVec 32 := 0#32
  let v927 : BitVec 1 := Scalar.cmpi .slt v925 c0_i32_884
  let c0_i32_885 : BitVec 32 := 0#32
  let v928 : BitVec 1 := Scalar.cmpi .slt v924 c0_i32_885
  let v929 : BitVec 1 := Scalar.xori v927 v928
  let c0_i32_883 : BitVec 32 := 0#32
  let v926 : BitVec 1 := Scalar.cmpi .ne v925 c0_i32_883
  let v930 : BitVec 1 := Scalar.andi v929 v926
  let v931 : BitVec 32 := Scalar.addi v925 v924
  let v932 : BitVec 32 := Scalar.select v930 v931 v925
  let c64_i32_886 : BitVec 32 := 64#32
  let v933 : BitVec 32 := Scalar.muli v932 c64_i32_886
  let v934 : BitVec 32 := Scalar.addi v811 v933
  let c640_i32_897 : BitVec 32 := 640#32
  ![v934.toNat, 640]
def k0_dev37 (d0 : Dev nD) : Nat :=
  let c0_i32_894 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_893 : BitVec 32 := 1#32
  let v935 : BitVec 32 := Scalar.muli v52 c1_i32_893
  let v936 : BitVec 32 := Scalar.addi c0_i32_894 v935
  v936.toNat
def k0_dev38 (d0 : Dev nD) : Nat :=
  let c0_i32_914 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_913 : BitVec 32 := 1#32
  let v958 : BitVec 32 := Scalar.muli v65 c1_i32_913
  let v959 : BitVec 32 := Scalar.addi c0_i32_914 v958
  v959.toNat
def k0_dev39 (d0 : Dev nD) : Nat :=
  let c0_i32_934 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_933 : BitVec 32 := 1#32
  let v981 : BitVec 32 := Scalar.muli v78 c1_i32_933
  let v982 : BitVec 32 := Scalar.addi c0_i32_934 v981
  v982.toNat
def k0_off37 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let v1002 : Index := Scalar.indexCast v811
  let c768_957 : Index := 768#32
  ![v1002.toNat, 768]
def k0_off38 (d0 : Dev nD) (c0_i32_962 : BitVec 32) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1010 : BitVec 32 := Scalar.addi v19 c0_i32_962
  let c1_i32_963 : BitVec 32 := 1#32
  let v1011 : BitVec 32 := Scalar.addi v1010 c1_i32_963
  let c4_i32_964 : BitVec 32 := 4#32
  let c0_i32_965 : BitVec 32 := 0#32
  let v1012 : BitVec 1 := Scalar.cmpi .eq c4_i32_964 c0_i32_965
  let c1_i32_966 : BitVec 32 := 1#32
  let v1013 : BitVec 32 := Scalar.select v1012 c1_i32_966 c4_i32_964
  let v1014 : BitVec 32 := Scalar.remsi v1011 v1013
  let c0_i32_968 : BitVec 32 := 0#32
  let v1016 : BitVec 1 := Scalar.cmpi .slt v1014 c0_i32_968
  let c0_i32_969 : BitVec 32 := 0#32
  let v1017 : BitVec 1 := Scalar.cmpi .slt v1013 c0_i32_969
  let v1018 : BitVec 1 := Scalar.xori v1016 v1017
  let c0_i32_967 : BitVec 32 := 0#32
  let v1015 : BitVec 1 := Scalar.cmpi .ne v1014 c0_i32_967
  let v1019 : BitVec 1 := Scalar.andi v1018 v1015
  let v1020 : BitVec 32 := Scalar.addi v1014 v1013
  let v1021 : BitVec 32 := Scalar.select v1019 v1020 v1014
  let c64_i32_970 : BitVec 32 := 64#32
  let v1022 : BitVec 32 := Scalar.muli v1021 c64_i32_970
  let v1023 : BitVec 32 := Scalar.addi v811 v1022
  let c768_i32_981 : BitVec 32 := 768#32
  ![v1023.toNat, 768]
def k0_dev40 (d0 : Dev nD) : Nat :=
  let c0_i32_978 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_977 : BitVec 32 := 1#32
  let v1024 : BitVec 32 := Scalar.muli v52 c1_i32_977
  let v1025 : BitVec 32 := Scalar.addi c0_i32_978 v1024
  v1025.toNat
def k0_dev41 (d0 : Dev nD) : Nat :=
  let c0_i32_998 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_997 : BitVec 32 := 1#32
  let v1047 : BitVec 32 := Scalar.muli v65 c1_i32_997
  let v1048 : BitVec 32 := Scalar.addi c0_i32_998 v1047
  v1048.toNat
def k0_dev42 (d0 : Dev nD) : Nat :=
  let c0_i32_1018 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1017 : BitVec 32 := 1#32
  let v1070 : BitVec 32 := Scalar.muli v78 c1_i32_1017
  let v1071 : BitVec 32 := Scalar.addi c0_i32_1018 v1070
  v1071.toNat
def k0_off39 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let v1091 : Index := Scalar.indexCast v811
  let c896_1041 : Index := 896#32
  ![v1091.toNat, 896]
def k0_off40 (d0 : Dev nD) (c0_i32_1046 : BitVec 32) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1099 : BitVec 32 := Scalar.addi v19 c0_i32_1046
  let c1_i32_1047 : BitVec 32 := 1#32
  let v1100 : BitVec 32 := Scalar.addi v1099 c1_i32_1047
  let c4_i32_1048 : BitVec 32 := 4#32
  let c0_i32_1049 : BitVec 32 := 0#32
  let v1101 : BitVec 1 := Scalar.cmpi .eq c4_i32_1048 c0_i32_1049
  let c1_i32_1050 : BitVec 32 := 1#32
  let v1102 : BitVec 32 := Scalar.select v1101 c1_i32_1050 c4_i32_1048
  let v1103 : BitVec 32 := Scalar.remsi v1100 v1102
  let c0_i32_1052 : BitVec 32 := 0#32
  let v1105 : BitVec 1 := Scalar.cmpi .slt v1103 c0_i32_1052
  let c0_i32_1053 : BitVec 32 := 0#32
  let v1106 : BitVec 1 := Scalar.cmpi .slt v1102 c0_i32_1053
  let v1107 : BitVec 1 := Scalar.xori v1105 v1106
  let c0_i32_1051 : BitVec 32 := 0#32
  let v1104 : BitVec 1 := Scalar.cmpi .ne v1103 c0_i32_1051
  let v1108 : BitVec 1 := Scalar.andi v1107 v1104
  let v1109 : BitVec 32 := Scalar.addi v1103 v1102
  let v1110 : BitVec 32 := Scalar.select v1108 v1109 v1103
  let c64_i32_1054 : BitVec 32 := 64#32
  let v1111 : BitVec 32 := Scalar.muli v1110 c64_i32_1054
  let v1112 : BitVec 32 := Scalar.addi v811 v1111
  let c896_i32_1065 : BitVec 32 := 896#32
  ![v1112.toNat, 896]
def k0_dev43 (d0 : Dev nD) : Nat :=
  let c0_i32_1062 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_1061 : BitVec 32 := 1#32
  let v1113 : BitVec 32 := Scalar.muli v52 c1_i32_1061
  let v1114 : BitVec 32 := Scalar.addi c0_i32_1062 v1113
  v1114.toNat
def k0_dev44 (d0 : Dev nD) : Nat :=
  let c0_i32_1082 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_1081 : BitVec 32 := 1#32
  let v1136 : BitVec 32 := Scalar.muli v65 c1_i32_1081
  let v1137 : BitVec 32 := Scalar.addi c0_i32_1082 v1136
  v1137.toNat
def k0_dev45 (d0 : Dev nD) : Nat :=
  let c0_i32_1102 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1101 : BitVec 32 := 1#32
  let v1159 : BitVec 32 := Scalar.muli v78 c1_i32_1101
  let v1160 : BitVec 32 := Scalar.addi c0_i32_1102 v1159
  v1160.toNat
def k0_off41 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1106 : BitVec 32 := 64#32
  let v1168 : BitVec 32 := Scalar.muli v19 c64_i32_1106
  let v1169 : BitVec 32 := Scalar.addi v453 v1168
  let v1191 : Index := Scalar.indexCast v1169
  let c0_1140 : Index := 0#32
  ![v1191.toNat, 0]
def k0_off42 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1106 : BitVec 32 := 64#32
  let v1168 : BitVec 32 := Scalar.muli v19 c64_i32_1106
  let v1169 : BitVec 32 := Scalar.addi v453 v1168
  let c0_i32_1160 : BitVec 32 := 0#32
  ![v1169.toNat, 0]
def k0_dev46 (d0 : Dev nD) : Nat :=
  let c0_i32_1159 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_1158 : BitVec 32 := 1#32
  let v1207 : BitVec 32 := Scalar.muli v52 c1_i32_1158
  let v1208 : BitVec 32 := Scalar.addi c0_i32_1159 v1207
  v1208.toNat
def k0_dev47 (d0 : Dev nD) : Nat :=
  let c0_i32_1167 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_1166 : BitVec 32 := 1#32
  let v1215 : BitVec 32 := Scalar.muli v65 c1_i32_1166
  let v1216 : BitVec 32 := Scalar.addi c0_i32_1167 v1215
  v1216.toNat
def k0_dev48 (d0 : Dev nD) : Nat :=
  let c0_i32_1175 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1174 : BitVec 32 := 1#32
  let v1223 : BitVec 32 := Scalar.muli v78 c1_i32_1174
  let v1224 : BitVec 32 := Scalar.addi c0_i32_1175 v1223
  v1224.toNat
def k0_off43 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1106 : BitVec 32 := 64#32
  let v1168 : BitVec 32 := Scalar.muli v19 c64_i32_1106
  let v1169 : BitVec 32 := Scalar.addi v453 v1168
  let v1267 : Index := Scalar.indexCast v1169
  let c128_1241 : Index := 128#32
  ![v1267.toNat, 128]
def k0_off44 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1106 : BitVec 32 := 64#32
  let v1168 : BitVec 32 := Scalar.muli v19 c64_i32_1106
  let v1169 : BitVec 32 := Scalar.addi v453 v1168
  let c128_i32_1261 : BitVec 32 := 128#32
  ![v1169.toNat, 128]
def k0_dev49 (d0 : Dev nD) : Nat :=
  let c0_i32_1260 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_1259 : BitVec 32 := 1#32
  let v1283 : BitVec 32 := Scalar.muli v52 c1_i32_1259
  let v1284 : BitVec 32 := Scalar.addi c0_i32_1260 v1283
  v1284.toNat
def k0_dev50 (d0 : Dev nD) : Nat :=
  let c0_i32_1268 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_1267 : BitVec 32 := 1#32
  let v1291 : BitVec 32 := Scalar.muli v65 c1_i32_1267
  let v1292 : BitVec 32 := Scalar.addi c0_i32_1268 v1291
  v1292.toNat
def k0_dev51 (d0 : Dev nD) : Nat :=
  let c0_i32_1276 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1275 : BitVec 32 := 1#32
  let v1299 : BitVec 32 := Scalar.muli v78 c1_i32_1275
  let v1300 : BitVec 32 := Scalar.addi c0_i32_1276 v1299
  v1300.toNat
def k0_off45 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1106 : BitVec 32 := 64#32
  let v1168 : BitVec 32 := Scalar.muli v19 c64_i32_1106
  let v1169 : BitVec 32 := Scalar.addi v453 v1168
  let v1343 : Index := Scalar.indexCast v1169
  let c256_1342 : Index := 256#32
  ![v1343.toNat, 256]
def k0_off46 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1106 : BitVec 32 := 64#32
  let v1168 : BitVec 32 := Scalar.muli v19 c64_i32_1106
  let v1169 : BitVec 32 := Scalar.addi v453 v1168
  let c256_i32_1362 : BitVec 32 := 256#32
  ![v1169.toNat, 256]
def k0_dev52 (d0 : Dev nD) : Nat :=
  let c0_i32_1361 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_1360 : BitVec 32 := 1#32
  let v1359 : BitVec 32 := Scalar.muli v52 c1_i32_1360
  let v1360 : BitVec 32 := Scalar.addi c0_i32_1361 v1359
  v1360.toNat
def k0_dev53 (d0 : Dev nD) : Nat :=
  let c0_i32_1369 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_1368 : BitVec 32 := 1#32
  let v1367 : BitVec 32 := Scalar.muli v65 c1_i32_1368
  let v1368 : BitVec 32 := Scalar.addi c0_i32_1369 v1367
  v1368.toNat
def k0_dev54 (d0 : Dev nD) : Nat :=
  let c0_i32_1377 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1376 : BitVec 32 := 1#32
  let v1375 : BitVec 32 := Scalar.muli v78 c1_i32_1376
  let v1376 : BitVec 32 := Scalar.addi c0_i32_1377 v1375
  v1376.toNat
def k0_off47 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1106 : BitVec 32 := 64#32
  let v1168 : BitVec 32 := Scalar.muli v19 c64_i32_1106
  let v1169 : BitVec 32 := Scalar.addi v453 v1168
  let v1419 : Index := Scalar.indexCast v1169
  let c384_1443 : Index := 384#32
  ![v1419.toNat, 384]
def k0_off48 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1106 : BitVec 32 := 64#32
  let v1168 : BitVec 32 := Scalar.muli v19 c64_i32_1106
  let v1169 : BitVec 32 := Scalar.addi v453 v1168
  let c384_i32_1463 : BitVec 32 := 384#32
  ![v1169.toNat, 384]
def k0_dev55 (d0 : Dev nD) : Nat :=
  let c0_i32_1462 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_1461 : BitVec 32 := 1#32
  let v1435 : BitVec 32 := Scalar.muli v52 c1_i32_1461
  let v1436 : BitVec 32 := Scalar.addi c0_i32_1462 v1435
  v1436.toNat
def k0_dev56 (d0 : Dev nD) : Nat :=
  let c0_i32_1470 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_1469 : BitVec 32 := 1#32
  let v1443 : BitVec 32 := Scalar.muli v65 c1_i32_1469
  let v1444 : BitVec 32 := Scalar.addi c0_i32_1470 v1443
  v1444.toNat
def k0_dev57 (d0 : Dev nD) : Nat :=
  let c0_i32_1478 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1477 : BitVec 32 := 1#32
  let v1451 : BitVec 32 := Scalar.muli v78 c1_i32_1477
  let v1452 : BitVec 32 := Scalar.addi c0_i32_1478 v1451
  v1452.toNat
def k0_off49 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1511 : BitVec 32 := 64#32
  let v1474 : BitVec 32 := Scalar.muli v19 c64_i32_1511
  let v1475 : BitVec 32 := Scalar.addi v811 v1474
  let v1497 : Index := Scalar.indexCast v1475
  let c512_1545 : Index := 512#32
  ![v1497.toNat, 512]
def k0_off50 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1511 : BitVec 32 := 64#32
  let v1474 : BitVec 32 := Scalar.muli v19 c64_i32_1511
  let v1475 : BitVec 32 := Scalar.addi v811 v1474
  let c512_i32_1565 : BitVec 32 := 512#32
  ![v1475.toNat, 512]
def k0_dev58 (d0 : Dev nD) : Nat :=
  let c0_i32_1564 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_1563 : BitVec 32 := 1#32
  let v1513 : BitVec 32 := Scalar.muli v52 c1_i32_1563
  let v1514 : BitVec 32 := Scalar.addi c0_i32_1564 v1513
  v1514.toNat
def k0_dev59 (d0 : Dev nD) : Nat :=
  let c0_i32_1572 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_1571 : BitVec 32 := 1#32
  let v1521 : BitVec 32 := Scalar.muli v65 c1_i32_1571
  let v1522 : BitVec 32 := Scalar.addi c0_i32_1572 v1521
  v1522.toNat
def k0_dev60 (d0 : Dev nD) : Nat :=
  let c0_i32_1580 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1579 : BitVec 32 := 1#32
  let v1529 : BitVec 32 := Scalar.muli v78 c1_i32_1579
  let v1530 : BitVec 32 := Scalar.addi c0_i32_1580 v1529
  v1530.toNat
def k0_off51 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1511 : BitVec 32 := 64#32
  let v1474 : BitVec 32 := Scalar.muli v19 c64_i32_1511
  let v1475 : BitVec 32 := Scalar.addi v811 v1474
  let v1573 : Index := Scalar.indexCast v1475
  let c640_1646 : Index := 640#32
  ![v1573.toNat, 640]
def k0_off52 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1511 : BitVec 32 := 64#32
  let v1474 : BitVec 32 := Scalar.muli v19 c64_i32_1511
  let v1475 : BitVec 32 := Scalar.addi v811 v1474
  let c640_i32_1666 : BitVec 32 := 640#32
  ![v1475.toNat, 640]
def k0_dev61 (d0 : Dev nD) : Nat :=
  let c0_i32_1665 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_1664 : BitVec 32 := 1#32
  let v1589 : BitVec 32 := Scalar.muli v52 c1_i32_1664
  let v1590 : BitVec 32 := Scalar.addi c0_i32_1665 v1589
  v1590.toNat
def k0_dev62 (d0 : Dev nD) : Nat :=
  let c0_i32_1673 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_1672 : BitVec 32 := 1#32
  let v1597 : BitVec 32 := Scalar.muli v65 c1_i32_1672
  let v1598 : BitVec 32 := Scalar.addi c0_i32_1673 v1597
  v1598.toNat
def k0_dev63 (d0 : Dev nD) : Nat :=
  let c0_i32_1681 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1680 : BitVec 32 := 1#32
  let v1605 : BitVec 32 := Scalar.muli v78 c1_i32_1680
  let v1606 : BitVec 32 := Scalar.addi c0_i32_1681 v1605
  v1606.toNat
def k0_off53 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1511 : BitVec 32 := 64#32
  let v1474 : BitVec 32 := Scalar.muli v19 c64_i32_1511
  let v1475 : BitVec 32 := Scalar.addi v811 v1474
  let v1649 : Index := Scalar.indexCast v1475
  let c768_1747 : Index := 768#32
  ![v1649.toNat, 768]
def k0_off54 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1511 : BitVec 32 := 64#32
  let v1474 : BitVec 32 := Scalar.muli v19 c64_i32_1511
  let v1475 : BitVec 32 := Scalar.addi v811 v1474
  let c768_i32_1767 : BitVec 32 := 768#32
  ![v1475.toNat, 768]
def k0_dev64 (d0 : Dev nD) : Nat :=
  let c0_i32_1766 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_1765 : BitVec 32 := 1#32
  let v1665 : BitVec 32 := Scalar.muli v52 c1_i32_1765
  let v1666 : BitVec 32 := Scalar.addi c0_i32_1766 v1665
  v1666.toNat
def k0_dev65 (d0 : Dev nD) : Nat :=
  let c0_i32_1774 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_1773 : BitVec 32 := 1#32
  let v1673 : BitVec 32 := Scalar.muli v65 c1_i32_1773
  let v1674 : BitVec 32 := Scalar.addi c0_i32_1774 v1673
  v1674.toNat
def k0_dev66 (d0 : Dev nD) : Nat :=
  let c0_i32_1782 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1781 : BitVec 32 := 1#32
  let v1681 : BitVec 32 := Scalar.muli v78 c1_i32_1781
  let v1682 : BitVec 32 := Scalar.addi c0_i32_1782 v1681
  v1682.toNat
def k0_off55 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1511 : BitVec 32 := 64#32
  let v1474 : BitVec 32 := Scalar.muli v19 c64_i32_1511
  let v1475 : BitVec 32 := Scalar.addi v811 v1474
  let v1725 : Index := Scalar.indexCast v1475
  let c896_1848 : Index := 896#32
  ![v1725.toNat, 896]
def k0_off56 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_1511 : BitVec 32 := 64#32
  let v1474 : BitVec 32 := Scalar.muli v19 c64_i32_1511
  let v1475 : BitVec 32 := Scalar.addi v811 v1474
  let c896_i32_1868 : BitVec 32 := 896#32
  ![v1475.toNat, 896]
def k0_dev67 (d0 : Dev nD) : Nat :=
  let c0_i32_1867 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let c0_i32_19 : BitVec 32 := 0#32
  let v41 : BitVec 1 := Scalar.cmpi .eq c4_i32_18 c0_i32_19
  let c1_i32_20 : BitVec 32 := 1#32
  let v42 : BitVec 32 := Scalar.select v41 c1_i32_20 c4_i32_18
  let v43 : BitVec 32 := Scalar.remsi v40 v42
  let c0_i32_22 : BitVec 32 := 0#32
  let v45 : BitVec 1 := Scalar.cmpi .slt v43 c0_i32_22
  let c0_i32_23 : BitVec 32 := 0#32
  let v46 : BitVec 1 := Scalar.cmpi .slt v42 c0_i32_23
  let v47 : BitVec 1 := Scalar.xori v45 v46
  let c0_i32_21 : BitVec 32 := 0#32
  let v44 : BitVec 1 := Scalar.cmpi .ne v43 c0_i32_21
  let v48 : BitVec 1 := Scalar.andi v47 v44
  let v49 : BitVec 32 := Scalar.addi v43 v42
  let v50 : BitVec 32 := Scalar.select v48 v49 v43
  let v51 : BitVec 32 := Scalar.muli c4_i32_24 v50
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v52 : BitVec 32 := Scalar.addi v51 v29
  let c1_i32_1866 : BitVec 32 := 1#32
  let v1741 : BitVec 32 := Scalar.muli v52 c1_i32_1866
  let v1742 : BitVec 32 := Scalar.addi c0_i32_1867 v1741
  v1742.toNat
def k0_dev68 (d0 : Dev nD) : Nat :=
  let c0_i32_1875 : BitVec 32 := 0#32
  let c4_i32_31 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v53 : BitVec 32 := Scalar.addi v19 c2_i32
  let c4_i32_25 : BitVec 32 := 4#32
  let c0_i32_26 : BitVec 32 := 0#32
  let v54 : BitVec 1 := Scalar.cmpi .eq c4_i32_25 c0_i32_26
  let c1_i32_27 : BitVec 32 := 1#32
  let v55 : BitVec 32 := Scalar.select v54 c1_i32_27 c4_i32_25
  let v56 : BitVec 32 := Scalar.remsi v53 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let v64 : BitVec 32 := Scalar.muli c4_i32_31 v63
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v65 : BitVec 32 := Scalar.addi v64 v29
  let c1_i32_1874 : BitVec 32 := 1#32
  let v1749 : BitVec 32 := Scalar.muli v65 c1_i32_1874
  let v1750 : BitVec 32 := Scalar.addi c0_i32_1875 v1749
  v1750.toNat
def k0_dev69 (d0 : Dev nD) : Nat :=
  let c0_i32_1883 : BitVec 32 := 0#32
  let c4_i32_39 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_32 : BitVec 32 := 3#32
  let v66 : BitVec 32 := Scalar.addi v19 c3_i32_32
  let c4_i32_33 : BitVec 32 := 4#32
  let c0_i32_34 : BitVec 32 := 0#32
  let v67 : BitVec 1 := Scalar.cmpi .eq c4_i32_33 c0_i32_34
  let c1_i32_35 : BitVec 32 := 1#32
  let v68 : BitVec 32 := Scalar.select v67 c1_i32_35 c4_i32_33
  let v69 : BitVec 32 := Scalar.remsi v66 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let v77 : BitVec 32 := Scalar.muli c4_i32_39 v76
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v78 : BitVec 32 := Scalar.addi v77 v29
  let c1_i32_1882 : BitVec 32 := 1#32
  let v1757 : BitVec 32 := Scalar.muli v78 c1_i32_1882
  let v1758 : BitVec 32 := Scalar.addi c0_i32_1883 v1757
  v1758.toNat
def k0_off57 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c0_i32_1946 : BitVec 32 := 0#32
  ![v453.toNat, 0]
def k0_dev70 (d0 : Dev nD) : Nat :=
  let c0_i32_1945 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_1944 : BitVec 32 := 1#32
  let v1798 : BitVec 32 := Scalar.muli v39 c1_i32_1944
  let v1799 : BitVec 32 := Scalar.addi c0_i32_1945 v1798
  v1799.toNat
def k0_off58 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c128_i32_1999 : BitVec 32 := 128#32
  ![v453.toNat, 128]
def k0_dev71 (d0 : Dev nD) : Nat :=
  let c0_i32_1998 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_1997 : BitVec 32 := 1#32
  let v1836 : BitVec 32 := Scalar.muli v39 c1_i32_1997
  let v1837 : BitVec 32 := Scalar.addi c0_i32_1998 v1836
  v1837.toNat
def k0_off59 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c256_i32_2052 : BitVec 32 := 256#32
  ![v453.toNat, 256]
def k0_dev72 (d0 : Dev nD) : Nat :=
  let c0_i32_2051 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_2050 : BitVec 32 := 1#32
  let v1874 : BitVec 32 := Scalar.muli v39 c1_i32_2050
  let v1875 : BitVec 32 := Scalar.addi c0_i32_2051 v1874
  v1875.toNat
def k0_off60 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c1_i32_13 : BitVec 32 := 1#32
  let v33 : BitVec 32 := Scalar.shrsi v29 c1_i32_13
  let c256_i32_433 : BitVec 32 := 256#32
  let v452 : BitVec 32 := Scalar.muli v33 c256_i32_433
  let v453 : BitVec 32 := Scalar.addi v193 v452
  let c384_i32_2105 : BitVec 32 := 384#32
  ![v453.toNat, 384]
def k0_dev73 (d0 : Dev nD) : Nat :=
  let c0_i32_2104 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_2103 : BitVec 32 := 1#32
  let v1912 : BitVec 32 := Scalar.muli v39 c1_i32_2103
  let v1913 : BitVec 32 := Scalar.addi c0_i32_2104 v1912
  v1913.toNat
def k0_off61 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c512_i32_2158 : BitVec 32 := 512#32
  ![v811.toNat, 512]
def k0_dev74 (d0 : Dev nD) : Nat :=
  let c0_i32_2157 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_2156 : BitVec 32 := 1#32
  let v1950 : BitVec 32 := Scalar.muli v36 c1_i32_2156
  let v1951 : BitVec 32 := Scalar.addi c0_i32_2157 v1950
  v1951.toNat
def k0_off62 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c640_i32_2211 : BitVec 32 := 640#32
  ![v811.toNat, 640]
def k0_dev75 (d0 : Dev nD) : Nat :=
  let c0_i32_2210 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_2209 : BitVec 32 := 1#32
  let v1988 : BitVec 32 := Scalar.muli v36 c1_i32_2209
  let v1989 : BitVec 32 := Scalar.addi c0_i32_2210 v1988
  v1989.toNat
def k0_off63 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c768_i32_2264 : BitVec 32 := 768#32
  ![v811.toNat, 768]
def k0_dev76 (d0 : Dev nD) : Nat :=
  let c0_i32_2263 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_2262 : BitVec 32 := 1#32
  let v2026 : BitVec 32 := Scalar.muli v36 c1_i32_2262
  let v2027 : BitVec 32 := Scalar.addi c0_i32_2263 v2026
  v2027.toNat
def k0_off64 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c256_i32_769 : BitVec 32 := 256#32
  let v810 : BitVec 32 := Scalar.muli v32 c256_i32_769
  let v811 : BitVec 32 := Scalar.addi v323 v810
  let c896_i32_2317 : BitVec 32 := 896#32
  ![v811.toNat, 896]
def k0_dev77 (d0 : Dev nD) : Nat :=
  let c0_i32_2316 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_2315 : BitVec 32 := 1#32
  let v2064 : BitVec 32 := Scalar.muli v36 c1_i32_2315
  let v2065 : BitVec 32 := Scalar.addi c0_i32_2316 v2064
  v2065.toNat
def k0_off65 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c0_i32_2361 : BitVec 32 := 0#32
  ![v193.toNat, 0]
def k0_dev78 (d0 : Dev nD) : Nat :=
  let c0_i32_2360 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_2359 : BitVec 32 := 1#32
  let v2094 : BitVec 32 := Scalar.muli v36 c1_i32_2359
  let v2095 : BitVec 32 := Scalar.addi c0_i32_2360 v2094
  v2095.toNat
def k0_off66 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c128_i32_2384 : BitVec 32 := 128#32
  ![v193.toNat, 128]
def k0_dev79 (d0 : Dev nD) : Nat :=
  let c0_i32_2383 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_2382 : BitVec 32 := 1#32
  let v2112 : BitVec 32 := Scalar.muli v36 c1_i32_2382
  let v2113 : BitVec 32 := Scalar.addi c0_i32_2383 v2112
  v2113.toNat
def k0_off67 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c256_i32_2407 : BitVec 32 := 256#32
  ![v193.toNat, 256]
def k0_dev80 (d0 : Dev nD) : Nat :=
  let c0_i32_2406 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_2405 : BitVec 32 := 1#32
  let v2130 : BitVec 32 := Scalar.muli v36 c1_i32_2405
  let v2131 : BitVec 32 := Scalar.addi c0_i32_2406 v2130
  v2131.toNat
def k0_off68 (d0 : Dev nD) : Fin 2 → Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.shrsi v29 c1_i32_11
  let v31 : BitVec 32 := Scalar.xori v29 v30
  let c1_i32_12 : BitVec 32 := 1#32
  let v32 : BitVec 32 := Scalar.andi v31 c1_i32_12
  let c512_i32_155 : BitVec 32 := 512#32
  let v192 : BitVec 32 := Scalar.muli v32 c512_i32_155
  let v193 : BitVec 32 := Scalar.addi c0_i32_156 v192
  let c384_i32_2430 : BitVec 32 := 384#32
  ![v193.toNat, 384]
def k0_dev81 (d0 : Dev nD) : Nat :=
  let c0_i32_2429 : BitVec 32 := 0#32
  let c4_i32_14 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_14 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_15 : BitVec 32 := 1#32
  let v35 : BitVec 32 := Scalar.xori v29 c1_i32_15
  let v36 : BitVec 32 := Scalar.addi v34 v35
  let c1_i32_2428 : BitVec 32 := 1#32
  let v2148 : BitVec 32 := Scalar.muli v36 c1_i32_2428
  let v2149 : BitVec 32 := Scalar.addi c0_i32_2429 v2148
  v2149.toNat
def k0_off69 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c512_i32_2453 : BitVec 32 := 512#32
  ![v323.toNat, 512]
def k0_dev82 (d0 : Dev nD) : Nat :=
  let c0_i32_2452 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_2451 : BitVec 32 := 1#32
  let v2166 : BitVec 32 := Scalar.muli v39 c1_i32_2451
  let v2167 : BitVec 32 := Scalar.addi c0_i32_2452 v2166
  v2167.toNat
def k0_off70 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c640_i32_2476 : BitVec 32 := 640#32
  ![v323.toNat, 640]
def k0_dev83 (d0 : Dev nD) : Nat :=
  let c0_i32_2475 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_2474 : BitVec 32 := 1#32
  let v2184 : BitVec 32 := Scalar.muli v39 c1_i32_2474
  let v2185 : BitVec 32 := Scalar.addi c0_i32_2475 v2184
  v2185.toNat
def k0_off71 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c768_i32_2499 : BitVec 32 := 768#32
  ![v323.toNat, 768]
def k0_dev84 (d0 : Dev nD) : Nat :=
  let c0_i32_2498 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_2497 : BitVec 32 := 1#32
  let v2202 : BitVec 32 := Scalar.muli v39 c1_i32_2497
  let v2203 : BitVec 32 := Scalar.addi c0_i32_2498 v2202
  v2203.toNat
def k0_off72 (d0 : Dev nD) : Fin 2 → Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v33 : BitVec 32 := Scalar.shrsi v29 c1_i32_13
  let c512_i32_295 : BitVec 32 := 512#32
  let v322 : BitVec 32 := Scalar.muli v33 c512_i32_295
  let v323 : BitVec 32 := Scalar.addi c0_i32_296 v322
  let c896_i32_2522 : BitVec 32 := 896#32
  ![v323.toNat, 896]
def k0_dev85 (d0 : Dev nD) : Nat :=
  let c0_i32_2521 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v37 : BitVec 32 := Scalar.muli c4_i32_16 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v38 : BitVec 32 := Scalar.xori v29 c3_i32
  let v39 : BitVec 32 := Scalar.addi v37 v38
  let c1_i32_2520 : BitVec 32 := 1#32
  let v2220 : BitVec 32 := Scalar.muli v39 c1_i32_2520
  let v2221 : BitVec 32 := Scalar.addi c0_i32_2521 v2220
  v2221.toNat
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Nf.lean ====
/-
The kernel's body as a program over UNITS: the eight column blocks of 128, each handled by the same sequence of
operations. The printed body names every offset and every device of every unit apart (`k0_off1 …`, `k0_dev1 …`);
here they are gathered in a table (`Tab`), the body is `nf` of the printed table (`body_eq`, by unfolding), and the
printed table is the table of closed formulas (`printed_eq`, checked over the sixteen devices).

Device `c` is `(z, q)` with `z = c / 4` and `q = c % 4`; the four devices of one `z` form a 2 × 2 square, in which
`xbit`, `ybit` are `c`'s coordinates and `q ^ 1`, `q ^ 3` its two neighbours. Units `0 … 3` reduce along x first and y
second, units `4 … 7` the other way round; `p1`, `bit1` are a unit's first neighbour and coordinate, `p2`, `bit2` its
second.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.KernelIdeal.Own

open Cert.KernelIdeal Cert.KernelIdeal.Gen
open Idealize.ShloMosaic Idealize.ShloMosaic.TcCoe Idealize.SL.Sem

variable {F : FTy → Type} [FloatOps F]

/-! ## The buffers and their pieces -/

abbrev b0 : Memref sig .tc .vmem S1024x64 .f32 := Memref.whole cc0_stg0_0
abbrev b1 : Memref sig .tc .vmem S64x1024 .f32 := Memref.whole cc0_stg1_0
abbrev b2 : Memref sig .tc .vmem S1024x1024 .f32 := Memref.whole cc0_stg2_0
abbrev b3 : Memref sig .tc .vmem S8x512x128 .f32 := Memref.whole cc0_scratch0
abbrev b4 : Memref sig .tc .vmem S8x256x128 .f32 := Memref.whole cc0_scratch1
abbrev b5 : Memref sig .tc .vmem S8x3x64x128 .f32 := Memref.whole cc0_scratch2

/-- An offset pair at which `n` rows of 128 columns fit in the result buffer. -/
abbrev Fits (n : Nat) (off : Fin 2 → Nat) : Prop := ∀ a, off a + (⟨2, ![n, 128]⟩ : Shape).size a ≤ S1024x1024.size a

/-- The rectangle of `n` rows and 128 columns at an offset pair. -/
abbrev rect (n : Nat) (off : Fin 2 → Nat) (h : Fits n off) : Rect S1024x1024 :=
  Rect.unit (s := S1024x1024) off (⟨2, ![n, 128]⟩ : Shape).size h

/-- That piece of the result buffer. -/
abbrev sl (n : Nat) (off : Fin 2 → Nat) (h : Fits n off) : Memref sig .tc .vmem ⟨2, ![n, 128]⟩ .f32 :=
  b2.slice (rect n off h) (fun _ => rfl)

theorem in3 (u : Fin 8) : ∀ a, (![u.val, 0, 0] : Fin 3 → Nat) a + S1x512x128.size a ≤ S8x512x128.size a := by
  revert u; decide
theorem in4 (u : Fin 8) : ∀ a, (![u.val, 0, 0] : Fin 3 → Nat) a + S1x256x128.size a ≤ S8x256x128.size a := by
  revert u; decide
theorem in5 (u : Fin 8) (t : Fin 3) : ∀ a, (![u.val, t.val, 0, 0] : Fin 4 → Nat) a + S1x1x64x128.size a ≤ S8x3x64x128.size a := by
  revert u t; decide

abbrev rect3 (u : Fin 8) : Rect S8x512x128 := Rect.unit (s := S8x512x128) ![u.val, 0, 0] S1x512x128.size (in3 u)
abbrev rect4 (u : Fin 8) : Rect S8x256x128 := Rect.unit (s := S8x256x128) ![u.val, 0, 0] S1x256x128.size (in4 u)
abbrev rect5 (u : Fin 8) (t : Fin 3) : Rect S8x3x64x128 := Rect.unit (s := S8x3x64x128) ![u.val, t.val, 0, 0] S1x1x64x128.size (in5 u t)

/-- Unit `u`'s landing buffers: of the first exchange, of the second, and of the `t`-th of the third. -/
abbrev l3 (u : Fin 8) : Memref sig .tc .vmem S512x128 .f32 :=
  (b3.slice (rect3 u) (fun _ => rfl)).squeeze S512x128 squeezes_S1x512x128_S512x128
abbrev l4 (u : Fin 8) : Memref sig .tc .vmem S256x128 .f32 :=
  (b4.slice (rect4 u) (fun _ => rfl)).squeeze S256x128 squeezes_S1x256x128_S256x128
abbrev l5 (u : Fin 8) (t : Fin 3) : Memref sig .tc .vmem S64x128 .f32 :=
  (b5.slice (rect5 u t) (fun _ => rfl)).squeeze S64x128 squeezes_S1x1x64x128_S64x128

theorem in28 (r : Fin 2) (u : Fin 8) : ∀ a, (![r.val, u.val] : Fin 2 → Nat) a + S1x1.size a ≤ S2x8.size a := by
  revert r u; decide
theorem in83 (u : Fin 8) (t : Fin 3) : ∀ a, (![u.val, t.val] : Fin 2 → Nat) a + S1x1.size a ≤ S8x3.size a := by
  revert u t; decide

abbrev sem2 (s : DmaSems sig S2x8) (r : Fin 2) (u : Fin 8) : DmaSem sig :=
  ((s.slice (Rect.unit (s := S2x8) ![r.val, u.val] S1x1.size (in28 r u))).squeeze S_ squeezes_S1x1_S_).sem
abbrev sem3 (s : DmaSems sig S8x3) (u : Fin 8) (t : Fin 3) : DmaSem sig :=
  ((s.slice (Rect.unit (s := S8x3) ![u.val, t.val] S1x1.size (in83 u t))).squeeze S_ squeezes_S1x1_S_).sem

abbrev barS : Sem sig := (SemArray.scalar (sig.barrier 0 rfl) : Sems sig S_).sem

/-! ## The table -/

/-- What the body's operations address, unit by unit: offsets into the result buffer, destination devices, semaphores. -/
@[ext] structure Tab where
  oA : Fin 8 → Dev nD → Fin 2 → Nat
  oB : Fin 8 → Dev nD → Fin 2 → Nat
  oB2 : Fin 8 → Dev nD → Fin 2 → Nat
  oC : Fin 8 → Dev nD → Fin 2 → Nat
  oC2 : Fin 8 → Fin 3 → Dev nD → Fin 2 → Nat
  oD : Fin 8 → Dev nD → Fin 2 → Nat
  oD2 : Fin 8 → Dev nD → Fin 2 → Nat
  oE : Fin 8 → Dev nD → Fin 2 → Nat
  oF : Fin 8 → Dev nD → Fin 2 → Nat
  dS : Fin 5 → Dev nD → Dev nD
  dA : Fin 8 → Dev nD → Dev nD
  dB : Fin 8 → Dev nD → Dev nD
  dC : Fin 8 → Fin 3 → Dev nD → Dev nD
  dD : Fin 8 → Fin 3 → Dev nD → Dev nD
  dE : Fin 8 → Dev nD → Dev nD
  dF : Fin 8 → Dev nD → Dev nD
  sRsS : Fin 2 → Fin 8 → DmaSem sig
  sRsR : Fin 2 → Fin 8 → DmaSem sig
  sZsS : Fin 8 → Fin 3 → DmaSem sig
  sZsR : Fin 8 → Fin 3 → DmaSem sig
  sZbS : Fin 8 → Fin 3 → DmaSem sig
  sZbR : Fin 8 → Fin 3 → DmaSem sig
  sAgS : Fin 2 → Fin 8 → DmaSem sig
  sAgR : Fin 2 → Fin 8 → DmaSem sig
  iA : ∀ u c, Fits 512 (oA u c)
  iB : ∀ u c, Fits 512 (oB u c)
  iB2 : ∀ u c, Fits 256 (oB2 u c)
  iC : ∀ u c, Fits 256 (oC u c)
  iC2 : ∀ u t c, Fits 64 (oC2 u t c)
  iD : ∀ u c, Fits 64 (oD u c)
  iD2 : ∀ u c, Fits 64 (oD2 u c)
  iE : ∀ u c, Fits 256 (oE u c)
  iF : ∀ u c, Fits 512 (oF u c)

/-- The printed table. -/
def printed : Tab where
  oA := ![k0_off1, k0_off2, k0_off3, k0_off4, k0_off5, k0_off6, k0_off7, k0_off8]
  oB := ![k0_off9, k0_off11, k0_off13, k0_off15, k0_off17, k0_off19, k0_off21, k0_off23]
  oB2 := ![k0_off10, k0_off12, k0_off14, k0_off16, k0_off18, k0_off20, k0_off22, k0_off24]
  oC := ![k0_off25, k0_off27, k0_off29, k0_off31, k0_off33, k0_off35, k0_off37, k0_off39]
  oC2 := fun u t c => (![k0_off26, k0_off28, k0_off30, k0_off32, k0_off34, k0_off36, k0_off38, k0_off40] : Fin 8 → Dev nD → BitVec 32 → Fin 2 → Nat) u c (BitVec.ofNat 32 t.val)
  oD := ![k0_off41, k0_off43, k0_off45, k0_off47, k0_off49, k0_off51, k0_off53, k0_off55]
  oD2 := ![k0_off42, k0_off44, k0_off46, k0_off48, k0_off50, k0_off52, k0_off54, k0_off56]
  oE := ![k0_off57, k0_off58, k0_off59, k0_off60, k0_off61, k0_off62, k0_off63, k0_off64]
  oF := ![k0_off65, k0_off66, k0_off67, k0_off68, k0_off69, k0_off70, k0_off71, k0_off72]
  dS := ![fun c => ⟨k0_dev1 c, k0_dev1_lt c⟩, fun c => ⟨k0_dev2 c, k0_dev2_lt c⟩, fun c => ⟨k0_dev3 c, k0_dev3_lt c⟩, fun c => ⟨k0_dev4 c, k0_dev4_lt c⟩, fun c => ⟨k0_dev5 c, k0_dev5_lt c⟩]
  dA := ![fun c => ⟨k0_dev6 c, k0_dev6_lt c⟩, fun c => ⟨k0_dev7 c, k0_dev7_lt c⟩, fun c => ⟨k0_dev8 c, k0_dev8_lt c⟩, fun c => ⟨k0_dev9 c, k0_dev9_lt c⟩, fun c => ⟨k0_dev10 c, k0_dev10_lt c⟩, fun c => ⟨k0_dev11 c, k0_dev11_lt c⟩, fun c => ⟨k0_dev12 c, k0_dev12_lt c⟩, fun c => ⟨k0_dev13 c, k0_dev13_lt c⟩]
  dB := ![fun c => ⟨k0_dev14 c, k0_dev14_lt c⟩, fun c => ⟨k0_dev15 c, k0_dev15_lt c⟩, fun c => ⟨k0_dev16 c, k0_dev16_lt c⟩, fun c => ⟨k0_dev17 c, k0_dev17_lt c⟩, fun c => ⟨k0_dev18 c, k0_dev18_lt c⟩, fun c => ⟨k0_dev19 c, k0_dev19_lt c⟩, fun c => ⟨k0_dev20 c, k0_dev20_lt c⟩, fun c => ⟨k0_dev21 c, k0_dev21_lt c⟩]
  dC := ![![fun c => ⟨k0_dev22 c, k0_dev22_lt c⟩, fun c => ⟨k0_dev23 c, k0_dev23_lt c⟩, fun c => ⟨k0_dev24 c, k0_dev24_lt c⟩], ![fun c => ⟨k0_dev25 c, k0_dev25_lt c⟩, fun c => ⟨k0_dev26 c, k0_dev26_lt c⟩, fun c => ⟨k0_dev27 c, k0_dev27_lt c⟩], ![fun c => ⟨k0_dev28 c, k0_dev28_lt c⟩, fun c => ⟨k0_dev29 c, k0_dev29_lt c⟩, fun c => ⟨k0_dev30 c, k0_dev30_lt c⟩], ![fun c => ⟨k0_dev31 c, k0_dev31_lt c⟩, fun c => ⟨k0_dev32 c, k0_dev32_lt c⟩, fun c => ⟨k0_dev33 c, k0_dev33_lt c⟩], ![fun c => ⟨k0_dev34 c, k0_dev34_lt c⟩, fun c => ⟨k0_dev35 c, k0_dev35_lt c⟩, fun c => ⟨k0_dev36 c, k0_dev36_lt c⟩], ![fun c => ⟨k0_dev37 c, k0_dev37_lt c⟩, fun c => ⟨k0_dev38 c, k0_dev38_lt c⟩, fun c => ⟨k0_dev39 c, k0_dev39_lt c⟩], ![fun c => ⟨k0_dev40 c, k0_dev40_lt c⟩, fun c => ⟨k0_dev41 c, k0_dev41_lt c⟩, fun c => ⟨k0_dev42 c, k0_dev42_lt c⟩], ![fun c => ⟨k0_dev43 c, k0_dev43_lt c⟩, fun c => ⟨k0_dev44 c, k0_dev44_lt c⟩, fun c => ⟨k0_dev45 c, k0_dev45_lt c⟩]]
  dD := ![![fun c => ⟨k0_dev46 c, k0_dev46_lt c⟩, fun c => ⟨k0_dev47 c, k0_dev47_lt c⟩, fun c => ⟨k0_dev48 c, k0_dev48_lt c⟩], ![fun c => ⟨k0_dev49 c, k0_dev49_lt c⟩, fun c => ⟨k0_dev50 c, k0_dev50_lt c⟩, fun c => ⟨k0_dev51 c, k0_dev51_lt c⟩], ![fun c => ⟨k0_dev52 c, k0_dev52_lt c⟩, fun c => ⟨k0_dev53 c, k0_dev53_lt c⟩, fun c => ⟨k0_dev54 c, k0_dev54_lt c⟩], ![fun c => ⟨k0_dev55 c, k0_dev55_lt c⟩, fun c => ⟨k0_dev56 c, k0_dev56_lt c⟩, fun c => ⟨k0_dev57 c, k0_dev57_lt c⟩], ![fun c => ⟨k0_dev58 c, k0_dev58_lt c⟩, fun c => ⟨k0_dev59 c, k0_dev59_lt c⟩, fun c => ⟨k0_dev60 c, k0_dev60_lt c⟩], ![fun c => ⟨k0_dev61 c, k0_dev61_lt c⟩, fun c => ⟨k0_dev62 c, k0_dev62_lt c⟩, fun c => ⟨k0_dev63 c, k0_dev63_lt c⟩], ![fun c => ⟨k0_dev64 c, k0_dev64_lt c⟩, fun c => ⟨k0_dev65 c, k0_dev65_lt c⟩, fun c => ⟨k0_dev66 c, k0_dev66_lt c⟩], ![fun c => ⟨k0_dev67 c, k0_dev67_lt c⟩, fun c => ⟨k0_dev68 c, k0_dev68_lt c⟩, fun c => ⟨k0_dev69 c, k0_dev69_lt c⟩]]
  dE := ![fun c => ⟨k0_dev70 c, k0_dev70_lt c⟩, fun c => ⟨k0_dev71 c, k0_dev71_lt c⟩, fun c => ⟨k0_dev72 c, k0_dev72_lt c⟩, fun c => ⟨k0_dev73 c, k0_dev73_lt c⟩, fun c => ⟨k0_dev74 c, k0_dev74_lt c⟩, fun c => ⟨k0_dev75 c, k0_dev75_lt c⟩, fun c => ⟨k0_dev76 c, k0_dev76_lt c⟩, fun c => ⟨k0_dev77 c, k0_dev77_lt c⟩]
  dF := ![fun c => ⟨k0_dev78 c, k0_dev78_lt c⟩, fun c => ⟨k0_dev79 c, k0_dev79_lt c⟩, fun c => ⟨k0_dev80 c, k0_dev80_lt c⟩, fun c => ⟨k0_dev81 c, k0_dev81_lt c⟩, fun c => ⟨k0_dev82 c, k0_dev82_lt c⟩, fun c => ⟨k0_dev83 c, k0_dev83_lt c⟩, fun c => ⟨k0_dev84 c, k0_dev84_lt c⟩, fun c => ⟨k0_dev85 c, k0_dev85_lt c⟩]
  sRsS := sem2 cc0_scratch3
  sRsR := sem2 cc0_scratch4
  sZsS := sem3 cc0_scratch5
  sZsR := sem3 cc0_scratch6
  sZbS := sem3 cc0_scratch7
  sZbR := sem3 cc0_scratch8
  sAgS := sem2 cc0_scratch9
  sAgR := sem2 cc0_scratch10
  iA := by decide +kernel
  iB := by decide +kernel
  iB2 := by decide +kernel
  iC := by decide +kernel
  iC2 := by decide +kernel
  iD := by decide +kernel
  iD2 := by decide +kernel
  iE := by decide +kernel
  iF := by decide +kernel

/-! ## The program -/

abbrev KProg (F : FTy → Type) := Prog (TpuEff nD τ sig (Elt F) Λ₀ .tc) PUnit

/-- The first exchange's sum: what was there plus what landed. -/
def sumB (v : Vec F S512x128 .f32) (w : Vec F S1x512x128 .f32) : FVec F S512x128 .f32 :=
  addf (shapeCast S512x128 v shapeCasts_S512x128_S512x128) (shapeCast S512x128 w shapeCasts_S1x512x128_S512x128)
/-- The second's. -/
def sumC (v : Vec F S256x128 .f32) (w : Vec F S1x256x128 .f32) : FVec F S256x128 .f32 :=
  addf (shapeCast S256x128 v shapeCasts_S256x128_S256x128) (shapeCast S256x128 w shapeCasts_S1x256x128_S256x128)
/-- The third's, of three landed pieces. -/
def sumD (v : Vec F S64x128 .f32) (w0 w1 w2 : Vec F S1x1x64x128 .f32) : FVec F S64x128 .f32 :=
  addf (addf (addf (shapeCast S64x128 v shapeCasts_S64x128_S64x128) (shapeCast S64x128 w0 shapeCasts_S1x1x64x128_S64x128))
    (shapeCast S64x128 w1 shapeCasts_S1x1x64x128_S64x128)) (shapeCast S64x128 w2 shapeCasts_S1x1x64x128_S64x128)
/-- The activation. -/
def silu (y : FVec F S64x128 .f32) : FVec F S64x128 .f32 := mulf y (logistic y)

variable (T : Tab) (c : Dev nD)

def stepA (u : Fin 8) (k : KProg F) : KProg F :=
  .op (.enqueueDma (sl 512 (T.oA u c) (T.iA u c)) (.remote (Dev.tc (T.dA u c)) (l3 u) (.dma (T.sRsS 0 u))) (.dma (T.sRsR 0 u))
    (View.wordExact_bits rfl) ((View.wordExact_bits rfl).reshape _ _) ⟨⟨rfl, Or.inl rfl⟩, trivial⟩) fun _ => k

def stepB (u : Fin 8) (k : KProg F) : KProg F :=
  .op (.waitDma2 (T.sRsS 0 u) (l3 u) (sl 512 (T.oA u c) (T.iA u c)) ((View.wordExact_bits rfl).reshape _ _) (View.wordExact_bits rfl)) fun _ =>
  .op (.waitDma2 (T.sRsR 0 u) (sl 512 (T.oA u c) (T.iA u c)) (l3 u) (View.wordExact_bits rfl) ((View.wordExact_bits rfl).reshape _ _)) fun _ =>
  .op (.load b2 (rect 512 (T.oB u c) (T.iB u c)).toLoadRect (View.loadsAt_vmem h_S512x128)) fun v =>
  .op (.load b3 (rect3 u).toLoadRect (View.loadsAt_vmem h_S1x512x128)) fun w =>
  .op (.load b2 (rect 512 (T.oB u c) (T.iB u c)).toLoadRect (View.loadsAt_vmem h_S512x128)) fun _ =>
  .op (.store b2 (rect 512 (T.oB u c) (T.iB u c)) (sumB v w) Finset.univ (View.stores_vmem_bits_univ h_S512x128 rfl) (.inl rfl)) fun _ =>
  .op (.enqueueDma (sl 256 (T.oB2 u c) (T.iB2 u c)) (.remote (Dev.tc (T.dB u c)) (l4 u) (.dma (T.sRsS 1 u))) (.dma (T.sRsR 1 u))
    (View.wordExact_bits rfl) ((View.wordExact_bits rfl).reshape _ _) ⟨⟨rfl, Or.inl rfl⟩, trivial⟩) fun _ => k

def stepCt (u : Fin 8) (t : Fin 3) (k : KProg F) : KProg F :=
  .op (.enqueueDma (sl 64 (T.oC2 u t c) (T.iC2 u t c)) (.remote (Dev.tc (T.dC u t c)) (l5 u t) (.dma (T.sZsS u t))) (.dma (T.sZsR u t))
    (View.wordExact_bits rfl) ((View.wordExact_bits rfl).reshape _ _) ⟨⟨rfl, Or.inl rfl⟩, trivial⟩) fun _ => k

def stepC (u : Fin 8) (k : KProg F) : KProg F :=
  .op (.waitDma2 (T.sRsS 1 u) (l4 u) (sl 256 (T.oB2 u c) (T.iB2 u c)) ((View.wordExact_bits rfl).reshape _ _) (View.wordExact_bits rfl)) fun _ =>
  .op (.waitDma2 (T.sRsR 1 u) (sl 256 (T.oB2 u c) (T.iB2 u c)) (l4 u) (View.wordExact_bits rfl) ((View.wordExact_bits rfl).reshape _ _)) fun _ =>
  .op (.load b2 (rect 256 (T.oC u c) (T.iC u c)).toLoadRect (View.loadsAt_vmem h_S256x128)) fun v =>
  .op (.load b4 (rect4 u).toLoadRect (View.loadsAt_vmem h_S1x256x128)) fun w =>
  .op (.load b2 (rect 256 (T.oC u c) (T.iC u c)).toLoadRect (View.loadsAt_vmem h_S256x128)) fun _ =>
  .op (.store b2 (rect 256 (T.oC u c) (T.iC u c)) (sumC v w) Finset.univ (View.stores_vmem_bits_univ h_S256x128 rfl) (.inl rfl)) fun _ =>
  ([0, 1, 2] : List (Fin 3)).foldr (stepCt T c u) k

def waitZsR (u : Fin 8) (t : Fin 3) (k : KProg F) : KProg F :=
  .op (.waitDma2 (T.sZsR u t) (sl 64 (T.oC2 u t c) (T.iC2 u t c)) (l5 u t) (View.wordExact_bits rfl) ((View.wordExact_bits rfl).reshape _ _)) fun _ => k
def sendZb (u : Fin 8) (t : Fin 3) (k : KProg F) : KProg F :=
  .op (.enqueueDma (sl 64 (T.oD2 u c) (T.iD2 u c)) (.remote (Dev.tc (T.dD u t c)) (sl 64 (T.oD2 u c) (T.iD2 u c)) (.dma (T.sZbS u t))) (.dma (T.sZbR u t))
    (View.wordExact_bits rfl) (View.wordExact_bits rfl) ⟨⟨rfl, Or.inl rfl⟩, trivial⟩) fun _ => k
def waitZsS (u : Fin 8) (t : Fin 3) (k : KProg F) : KProg F :=
  .op (.waitDma2 (T.sZsS u t) (l5 u t) (sl 64 (T.oC2 u t c) (T.iC2 u t c)) ((View.wordExact_bits rfl).reshape _ _) (View.wordExact_bits rfl)) fun _ => k

def stepD (u : Fin 8) (k : KProg F) : KProg F :=
  ([0, 1, 2] : List (Fin 3)).foldr (waitZsR T c u) <|
  .op (.load b2 (rect 64 (T.oD u c) (T.iD u c)).toLoadRect (View.loadsAt_vmem h_S64x128)) fun v =>
  .op (.load b5 (rect5 u 0).toLoadRect (View.loadsAt_vmem h_S1x1x64x128)) fun w0 =>
  .op (.load b5 (rect5 u 1).toLoadRect (View.loadsAt_vmem h_S1x1x64x128)) fun w1 =>
  .op (.load b5 (rect5 u 2).toLoadRect (View.loadsAt_vmem h_S1x1x64x128)) fun w2 =>
  .op (.load b2 (rect 64 (T.oD u c) (T.iD u c)).toLoadRect (View.loadsAt_vmem h_S64x128)) fun _ =>
  .op (.store b2 (rect 64 (T.oD u c) (T.iD u c)) (silu (sumD v w0 w1 w2)) Finset.univ (View.stores_vmem_bits_univ h_S64x128 rfl) (.inl rfl)) fun _ =>
  ([0, 1, 2] : List (Fin 3)).foldr (sendZb T c u) <|
  ([0, 1, 2] : List (Fin 3)).foldr (waitZsS T c u) k

def waitZbR (u : Fin 8) (t : Fin 3) (k : KProg F) : KProg F :=
  .op (.waitDma2 (T.sZbR u t) (sl 64 (T.oD2 u c) (T.iD2 u c)) (sl 64 (T.oD2 u c) (T.iD2 u c)) (View.wordExact_bits rfl) (View.wordExact_bits rfl)) fun _ => k
def waitZbS (u : Fin 8) (t : Fin 3) (k : KProg F) : KProg F :=
  .op (.waitDma2 (T.sZbS u t) (sl 64 (T.oD2 u c) (T.iD2 u c)) (sl 64 (T.oD2 u c) (T.iD2 u c)) (View.wordExact_bits rfl) (View.wordExact_bits rfl)) fun _ => k

def stepE (u : Fin 8) (k : KProg F) : KProg F :=
  ([0, 1, 2] : List (Fin 3)).foldr (waitZbR T c u) <|
  .op (.enqueueDma (sl 256 (T.oE u c) (T.iE u c)) (.remote (Dev.tc (T.dE u c)) (sl 256 (T.oE u c) (T.iE u c)) (.dma (T.sAgS 0 u))) (.dma (T.sAgR 0 u))
    (View.wordExact_bits rfl) (View.wordExact_bits rfl) ⟨⟨rfl, Or.inl rfl⟩, trivial⟩) fun _ =>
  ([0, 1, 2] : List (Fin 3)).foldr (waitZbS T c u) k

def stepF (u : Fin 8) (k : KProg F) : KProg F :=
  .op (.waitDma2 (T.sAgS 0 u) (sl 256 (T.oE u c) (T.iE u c)) (sl 256 (T.oE u c) (T.iE u c)) (View.wordExact_bits rfl) (View.wordExact_bits rfl)) fun _ =>
  .op (.waitDma2 (T.sAgR 0 u) (sl 256 (T.oE u c) (T.iE u c)) (sl 256 (T.oE u c) (T.iE u c)) (View.wordExact_bits rfl) (View.wordExact_bits rfl)) fun _ =>
  .op (.enqueueDma (sl 512 (T.oF u c) (T.iF u c)) (.remote (Dev.tc (T.dF u c)) (sl 512 (T.oF u c) (T.iF u c)) (.dma (T.sAgS 1 u))) (.dma (T.sAgR 1 u))
    (View.wordExact_bits rfl) (View.wordExact_bits rfl) ⟨⟨rfl, Or.inl rfl⟩, trivial⟩) fun _ => k

def stepG (u : Fin 8) (k : KProg F) : KProg F :=
  .op (.waitDma2 (T.sAgS 1 u) (sl 512 (T.oF u c) (T.iF u c)) (sl 512 (T.oF u c) (T.iF u c)) (View.wordExact_bits rfl) (View.wordExact_bits rfl)) fun _ =>
  .op (.waitDma2 (T.sAgR 1 u) (sl 512 (T.oF u c) (T.iF u c)) (sl 512 (T.oF u c) (T.iF u c)) (View.wordExact_bits rfl) (View.wordExact_bits rfl)) fun _ => k

abbrev us : List (Fin 8) := [0, 1, 2, 3, 4, 5, 6, 7]

def sig1 (j : Fin 5) (k : KProg F) : KProg F :=
  .op (.semSignal (T.dS j c, .tc) barS (1#32).toInt) fun _ => k

def prod (k : KProg F) : KProg F :=
  .op (.load b0 (Rect.unit (s := S1024x64) ![0, 0] S1024x64.size inb_S1024x64_S1024x64_0_0).toLoadRect (View.loadsAt_vmem h_S1024x64)) fun v =>
  .op (.load b1 (Rect.unit (s := S64x1024) ![0, 0] S64x1024.size inb_S64x1024_S64x1024_0_0).toLoadRect (View.loadsAt_vmem h_S64x1024)) fun w =>
  .op (.load b2 (Rect.unit (s := S1024x1024) ![0, 0] S1024x1024.size inb_S1024x1024_S1024x1024_0_0).toLoadRect (View.loadsAt_vmem h_S1024x1024)) fun _ =>
  .op (.store b2 (Rect.unit (s := S1024x1024) ![0, 0] S1024x1024.size inb_S1024x1024_S1024x1024_0_0) (k0_pay1 v w) Finset.univ
    (View.stores_vmem_bits_univ h_S1024x1024 rfl) (.inl rfl)) fun _ => k

/-- The body on device `c`: the entry handshake, the partial product, and the seven phases over the units. -/
def nf : KProg F :=
  ([0, 1, 2, 3, 4] : List (Fin 5)).foldr (sig1 T c) <|
  .op (.semWait barS (5#32).toInt) fun _ =>
  prod <|
  us.foldr (stepA T c) <| us.foldr (stepB T c) <| us.foldr (stepC T c) <| us.foldr (stepD T c) <|
  us.foldr (stepE T c) <| us.foldr (stepF T c) <| us.foldr (stepG T c) <| .ret ⟨⟩

theorem body_eq : cc0_body (F := F) b0 (Memref.isWhole_whole _) b1 (Memref.isWhole_whole _) b2 (Memref.isWhole_whole _)
      b3 (Memref.isWhole_whole _) b4 (Memref.isWhole_whole _) b5 (Memref.isWhole_whole _)
      cc0_scratch3 cc0_scratch4 cc0_scratch5 cc0_scratch6 cc0_scratch7 cc0_scratch8 cc0_scratch9 cc0_scratch10
    = .op .deviceId fun c => nf printed c := by
  sl_kernel_rfl

/-! ## Closed formulas -/

def zz (c : Dev nD) : Nat := c.val / 4
def qq (c : Dev nD) : Nat := c.val % 4
def xbit (c : Dev nD) : Nat := (qq c ^^^ (qq c >>> 1)) % 2
def ybit (c : Dev nD) : Nat := qq c / 2
def xp (c : Dev nD) : Dev nD := ⟨(4 * zz c + (qq c ^^^ 1)) % 16, Nat.mod_lt _ (by decide)⟩
def yp (c : Dev nD) : Dev nD := ⟨(4 * zz c + (qq c ^^^ 3)) % 16, Nat.mod_lt _ (by decide)⟩
/-- The device `t + 1` squares on, at the same place of its square. -/
def zp (c : Dev nD) (t : Fin 3) : Dev nD := ⟨(4 * ((zz c + t.val + 1) % 4) + qq c) % 16, Nat.mod_lt _ (by decide)⟩

def p1 (c : Dev nD) (u : Fin 8) : Dev nD := if u.val < 4 then xp c else yp c
def p2 (c : Dev nD) (u : Fin 8) : Dev nD := if u.val < 4 then yp c else xp c
def bit1 (c : Dev nD) (u : Fin 8) : Nat := if u.val < 4 then xbit c else ybit c
def bit2 (c : Dev nD) (u : Fin 8) : Nat := if u.val < 4 then ybit c else xbit c
/-- The first row of the half, of the quarter, and of the sixteenth that device `c` reduces of unit `u`. -/
def r1 (c : Dev nD) (u : Fin 8) : Nat := 512 * bit1 c u
def r2 (c : Dev nD) (u : Fin 8) : Nat := r1 c u + 256 * bit2 c u
def r3 (c : Dev nD) (u : Fin 8) : Nat := r2 c u + 64 * zz c

/-- The offset pair of row `r` in unit `u`'s columns. -/
abbrev at_ (r : Nat) (u : Fin 8) : Fin 2 → Nat := ![r, 128 * u.val]

theorem r1_le (c : Dev nD) (u : Fin 8) : r1 c u + 512 ≤ 1024 := by revert c u; decide +kernel
theorem r2_le (c : Dev nD) (u : Fin 8) : r2 c u + 256 ≤ 1024 := by revert c u; decide +kernel
theorem r3_le (c : Dev nD) (u : Fin 8) : r3 c u + 64 ≤ 1024 := by revert c u; decide +kernel

theorem fits {n r : Nat} (u : Fin 8) (h : r + n ≤ 1024) : Fits n (at_ r u) := by
  intro a
  match a with
  | 0 => exact h
  | 1 => show 128 * u.val + 128 ≤ 1024; omega

/-- The closed table. -/
def closed : Tab where
  oA u c := at_ (r1 (p1 c u) u) u
  oB u c := at_ (r1 c u) u
  oB2 u c := at_ (r2 (p2 c u) u) u
  oC u c := at_ (r2 c u) u
  oC2 u t c := at_ (r3 (zp c t) u) u
  oD u c := at_ (r3 c u) u
  oD2 u c := at_ (r3 c u) u
  oE u c := at_ (r2 c u) u
  oF u c := at_ (r1 c u) u
  dS := ![xp, yp, fun c => zp c 0, fun c => zp c 1, fun c => zp c 2]
  dA u c := p1 c u
  dB u c := p2 c u
  dC u t c := zp c t
  dD u t c := zp c t
  dE u c := p2 c u
  dF u c := p1 c u
  sRsS r u := ⟨3 + (8 * r.val + u.val), by have := r.isLt; have := u.isLt; show _ < 163; omega⟩
  sRsR r u := ⟨19 + (8 * r.val + u.val), by have := r.isLt; have := u.isLt; show _ < 163; omega⟩
  sZsS u t := ⟨35 + (3 * u.val + t.val), by have := t.isLt; have := u.isLt; show _ < 163; omega⟩
  sZsR u t := ⟨59 + (3 * u.val + t.val), by have := t.isLt; have := u.isLt; show _ < 163; omega⟩
  sZbS u t := ⟨83 + (3 * u.val + t.val), by have := t.isLt; have := u.isLt; show _ < 163; omega⟩
  sZbR u t := ⟨107 + (3 * u.val + t.val), by have := t.isLt; have := u.isLt; show _ < 163; omega⟩
  sAgS r u := ⟨131 + (8 * r.val + u.val), by have := r.isLt; have := u.isLt; show _ < 163; omega⟩
  sAgR r u := ⟨147 + (8 * r.val + u.val), by have := r.isLt; have := u.isLt; show _ < 163; omega⟩
  iA u c := fits u (r1_le _ u)
  iB u c := fits u (r1_le _ u)
  iB2 u c := fits u (r2_le _ u)
  iC u c := fits u (r2_le _ u)
  iC2 u t c := fits u (r3_le _ u)
  iD u c := fits u (r3_le _ u)
  iD2 u c := fits u (r3_le _ u)
  iE u c := fits u (r2_le _ u)
  iF u c := fits u (r1_le _ u)

theorem fun3 {α β γ : Type} {f g : α → β → Fin 2 → γ} (h : ∀ a b, (f a b 0 = g a b 0 ∧ f a b 1 = g a b 1)) : f = g := by
  funext a b i
  match i with
  | 0 => exact (h a b).1
  | 1 => exact (h a b).2

theorem printed_eq : printed = closed := by
  apply Tab.ext
  · exact fun3 (by decide +kernel)
  · exact fun3 (by decide +kernel)
  · exact fun3 (by decide +kernel)
  · exact fun3 (by decide +kernel)
  · funext u; exact fun3 (by revert u; decide +kernel)
  · exact fun3 (by decide +kernel)
  · exact fun3 (by decide +kernel)
  · exact fun3 (by decide +kernel)
  · exact fun3 (by decide +kernel)
  all_goals first
    | exact funext fun a => funext fun b => by revert a b; decide +kernel
    | exact funext fun a => funext fun b => funext fun d => by revert a b d; decide +kernel

/-- What the pipeline runs is the closed program. -/
theorem body_closed : cc0_body (F := F) b0 (Memref.isWhole_whole _) b1 (Memref.isWhole_whole _) b2 (Memref.isWhole_whole _)
      b3 (Memref.isWhole_whole _) b4 (Memref.isWhole_whole _) b5 (Memref.isWhole_whole _)
      cc0_scratch3 cc0_scratch4 cc0_scratch5 cc0_scratch6 cc0_scratch7 cc0_scratch8 cc0_scratch9 cc0_scratch10
    = .op .deviceId fun c => nf closed c := by
  rw [body_eq, printed_eq]

end Cert.KernelIdeal.Own

end
-- ==== Proof.Regions.lean ====
/-
What the buffers hold, and the pieces they are cut into.

The result buffer is cut into blocks `blk n r u`: rows `r … r + n - 1` of unit `u`'s 128 columns. A unit's column block
on device `c` is halved (`r1`), the half halved (`r2`), the quarter cut in four (`r3`); the lemmas here say how these
blocks split. The contents are given entry by entry over an arbitrary family `P` of partial products: `A1` the sum of
two, `A2` of four, `Y` the activation of the sum of sixteen, `Fn` the finished result.
-/
module

public import proofs.«01_k».proof.Proof.Nf
public import Idealize.ShloMosaic.Lib.Pipeline.Value

@[expose] public section

noncomputable section

namespace Cert.KernelIdeal.Own

open Cert.KernelIdeal Cert.KernelIdeal.Gen
open Idealize.ShloMosaic Idealize.ShloMosaic.TcCoe Idealize.SL.Sem

variable {F : FTy → Type} [FloatOps F]

/-! ## The devices -/

/-- The device whose `zp · t` is `c`. -/
def zf (c : Dev nD) (t : Fin 3) : Dev nD := zp c (Fin.rev t)

theorem xp_xp (c : Dev nD) : xp (xp c) = c := by revert c; decide +kernel
theorem yp_yp (c : Dev nD) : yp (yp c) = c := by revert c; decide +kernel
theorem p1_p1 (c : Dev nD) (u : Fin 8) : p1 (p1 c u) u = c := by revert c u; decide +kernel
theorem p2_p2 (c : Dev nD) (u : Fin 8) : p2 (p2 c u) u = c := by revert c u; decide +kernel
theorem zp_zf (c : Dev nD) (t : Fin 3) : zp (zf c t) t = c := by revert c t; decide +kernel
theorem zf_zp (c : Dev nD) (t : Fin 3) : zf (zp c t) t = c := by revert c t; decide +kernel
theorem r1_p1 (c : Dev nD) (u : Fin 8) : r1 c u + r1 (p1 c u) u = 512 := by revert c u; decide +kernel
theorem r1_or (c : Dev nD) (u : Fin 8) : r1 c u = 0 ∨ r1 c u = 512 := by revert c u; decide +kernel
theorem r2_or (c : Dev nD) (u : Fin 8) :
    (r2 c u = r1 c u ∧ r2 (p2 c u) u = r1 c u + 256) ∨ (r2 c u = r1 c u + 256 ∧ r2 (p2 c u) u = r1 c u) := by
  revert c u; decide +kernel
theorem r3_zp (c : Dev nD) (u : Fin 8) : ∀ s : Fin 4, r2 c u + 64 * s.val = r3 c u ∨ ∃ t, r2 c u + 64 * s.val = r3 (zp c t) u := by
  revert c u; decide +kernel
theorem r3_zp_ne (c : Dev nD) (u : Fin 8) (t : Fin 3) : r3 c u + 64 ≤ r3 (zp c t) u ∨ r3 (zp c t) u + 64 ≤ r3 c u := by
  revert c u t; decide +kernel
theorem r3_zp_ne' (c : Dev nD) (u : Fin 8) (t t' : Fin 3) (h : t ≠ t') :
    r3 (zp c t) u + 64 ≤ r3 (zp c t') u ∨ r3 (zp c t') u + 64 ≤ r3 (zp c t) u := by
  revert c u t t'; decide +kernel
theorem r3_zp_in (c : Dev nD) (u : Fin 8) (t : Fin 3) : r2 c u ≤ r3 (zp c t) u ∧ r3 (zp c t) u + 64 ≤ r2 c u + 256 := by
  revert c u t; decide +kernel
theorem r3_in (c : Dev nD) (u : Fin 8) : r2 c u ≤ r3 c u ∧ r3 c u + 64 ≤ r2 c u + 256 := by
  revert c u; decide +kernel

/-! ## Blocks of the result buffer -/

/-- Rows `r … r + n - 1` of unit `u`'s columns. -/
def blk (n r : Nat) (u : Fin 8) : Finset S1024x1024.Idx :=
  Finset.univ.filter fun i => (r ≤ (i 0).val ∧ (i 0).val < r + n) ∧ (128 * u.val ≤ (i 1).val ∧ (i 1).val < 128 * u.val + 128)

theorem mem_blk {n r : Nat} {u : Fin 8} {i : S1024x1024.Idx} :
    i ∈ blk n r u ↔ (r ≤ (i 0).val ∧ (i 0).val < r + n) ∧ (128 * u.val ≤ (i 1).val ∧ (i 1).val < 128 * u.val + 128) := by
  unfold blk; rw [Finset.mem_filter]; exact and_iff_right (Finset.mem_univ _)

theorem blk_disjoint {n r n' r' : Nat} (u : Fin 8) (h : r + n ≤ r' ∨ r' + n' ≤ r) : Disjoint (blk n r u) (blk n' r' u) :=
  Finset.disjoint_left.mpr fun i hi hi' => by rw [mem_blk] at hi hi'; omega

theorem blk_append {n r n' m : Nat} (u : Fin 8) (h : n + n' = m) : blk m r u = blk n r u ∪ blk n' (r + n) u := by
  subst h
  ext i; rw [Finset.mem_union, mem_blk, mem_blk, mem_blk]; omega

theorem set_rect {n r : Nat} {u : Fin 8} (h : Fits n (at_ r u)) : (rect n (at_ r u) h).set = blk n r u := by
  ext i
  rw [Rect.mem_set_unit, mem_blk]
  constructor
  · intro hi; exact ⟨hi 0, hi 1⟩
  · rintro ⟨h0, h1⟩ a
    match a with
    | 0 => exact h0
    | 1 => exact h1

theorem set_sl {n r : Nat} {u : Fin 8} (h : Fits n (at_ r u)) : (sl n (at_ r u) h).view.set = blk n r u :=
  (View.set_slice_whole cc0_stg2_0 (rect n (at_ r u) h)).trans (set_rect h)

theorem set_access {n r : Nat} {u : Fin 8} (h : Fits n (at_ r u)) : (b2.access (rect n (at_ r u) h)).set = blk n r u :=
  (View.set_slice_whole cc0_stg2_0 (rect n (at_ r u) h)).trans (set_rect h)

theorem setOn_rect {n r : Nat} {u : Fin 8} (h : Fits n (at_ r u)) : b2.view.setOn (rect n (at_ r u) h).set = blk n r u :=
  (View.set_slice b2.view (rect n (at_ r u) h)).symm.trans (set_access h)
theorem set_l3 (u : Fin 8) : (l3 u).view.set = b3.view.setOn (rect3 u).set :=
  (View.set_reshape (b3.view.slice (rect3 u)) _).trans (View.set_slice b3.view (rect3 u))
theorem set_l4 (u : Fin 8) : (l4 u).view.set = b4.view.setOn (rect4 u).set :=
  (View.set_reshape (b4.view.slice (rect4 u)) _).trans (View.set_slice b4.view (rect4 u))
theorem set_l5 (u : Fin 8) (t : Fin 3) : (l5 u t).view.set = b5.view.setOn (rect5 u t).set :=
  (View.set_reshape (b5.view.slice (rect5 u t)) _).trans (View.set_slice b5.view (rect5 u t))

/-- The two halves of a unit's columns; -/
theorem blk_half (c : Dev nD) (u : Fin 8) : blk 1024 0 u = blk 512 (r1 c u) u ∪ blk 512 (r1 (p1 c u) u) u := by
  have h := r1_p1 c u
  rcases r1_or c u with h0 | h0
  · rw [h0, show r1 (p1 c u) u = 0 + 512 by omega]; exact blk_append u rfl
  · rw [h0, show r1 (p1 c u) u = 0 by omega, Finset.union_comm]; exact blk_append u rfl
theorem blk_half_disjoint (c : Dev nD) (u : Fin 8) : Disjoint (blk 512 (r1 c u) u) (blk 512 (r1 (p1 c u) u) u) :=
  blk_disjoint u (by have := r1_p1 c u; have := r1_or c u; omega)
/-- the two quarters of its half; -/
theorem blk_quarter (c : Dev nD) (u : Fin 8) : blk 512 (r1 c u) u = blk 256 (r2 c u) u ∪ blk 256 (r2 (p2 c u) u) u := by
  rcases r2_or c u with ⟨h, h'⟩ | ⟨h, h'⟩
  · rw [h, h']; exact blk_append u rfl
  · rw [h, h', Finset.union_comm]; exact blk_append u rfl
theorem blk_quarter_disjoint (c : Dev nD) (u : Fin 8) : Disjoint (blk 256 (r2 c u) u) (blk 256 (r2 (p2 c u) u) u) :=
  blk_disjoint u (by have := r2_or c u; omega)
/-- the four sixteenths of its quarter. -/
theorem blk_sixteenth (c : Dev nD) (u : Fin 8) : blk 256 (r2 c u) u
    = blk 64 (r3 c u) u ∪ (blk 64 (r3 (zp c 0) u) u ∪ (blk 64 (r3 (zp c 1) u) u ∪ blk 64 (r3 (zp c 2) u) u)) := by
  ext i
  simp only [Finset.mem_union, mem_blk]
  have h := r3_in c u
  have h0 := r3_zp_in c u 0
  have h1 := r3_zp_in c u 1
  have h2 := r3_zp_in c u 2
  constructor
  · rintro ⟨hr, hc⟩
    obtain ⟨s, hs⟩ : ∃ s : Fin 4, r2 c u + 64 * s.val ≤ (i 0).val ∧ (i 0).val < r2 c u + 64 * s.val + 64 :=
      ⟨⟨((i 0).val - r2 c u) / 64, by omega⟩, by
        show r2 c u + 64 * (((i 0).val - r2 c u) / 64) ≤ (i 0).val ∧ (i 0).val < r2 c u + 64 * (((i 0).val - r2 c u) / 64) + 64
        omega⟩
    rcases r3_zp c u s with e | ⟨t, e⟩
    · left; omega
    · right
      match t, e with
      | 0, e => left; omega
      | 1, e => right; left; omega
      | 2, e => right; right; omega
  · omega
theorem blk_sixteenth_disjoint (c : Dev nD) (u : Fin 8) :
    Disjoint (blk 64 (r3 c u) u) (blk 64 (r3 (zp c 0) u) u ∪ (blk 64 (r3 (zp c 1) u) u ∪ blk 64 (r3 (zp c 2) u) u)) := by
  rw [Finset.disjoint_union_right, Finset.disjoint_union_right]
  exact ⟨blk_disjoint u (r3_zp_ne c u 0), blk_disjoint u (r3_zp_ne c u 1), blk_disjoint u (r3_zp_ne c u 2)⟩
theorem blk_sixteenth_disjoint' (c : Dev nD) (u : Fin 8) :
    Disjoint (blk 64 (r3 (zp c 0) u) u) (blk 64 (r3 (zp c 1) u) u ∪ blk 64 (r3 (zp c 2) u) u) := by
  rw [Finset.disjoint_union_right]
  exact ⟨blk_disjoint u (r3_zp_ne' c u 0 1 (by decide)), blk_disjoint u (r3_zp_ne' c u 0 2 (by decide))⟩
theorem blk_sixteenth_disjoint'' (c : Dev nD) (u : Fin 8) : Disjoint (blk 64 (r3 (zp c 1) u) u) (blk 64 (r3 (zp c 2) u) u) :=
  blk_disjoint u (r3_zp_ne' c u 1 2 (by decide))

/-- The column blocks of the units make up the buffer. -/
theorem blk_units : (Finset.univ : Finset (Fin 8)).biUnion (fun u => blk 1024 0 u) = Finset.univ := by
  ext i
  simp only [Finset.mem_biUnion, Finset.mem_univ, true_and, iff_true, mem_blk]
  have h0 : (i 0).val < 1024 := (i 0).isLt
  have h1 : (i 1).val < 1024 := (i 1).isLt
  exact ⟨⟨(i 1).val / 128, by omega⟩, by omega, by show 128 * ((i 1).val / 128) ≤ _; omega, by show _ < 128 * ((i 1).val / 128) + 128; omega⟩
theorem blk_units_disjoint (u u' : Fin 8) (h : u ≠ u') : Disjoint (blk 1024 0 u) (blk 1024 0 u') :=
  Finset.disjoint_left.mpr fun i hi hi' => h (Fin.ext (by rw [mem_blk] at hi hi'; omega))

/-! ## Contents -/

/-- Contents of the result buffer. -/
abbrev Cont (F : FTy → Type) : Type := Vec F S1024x1024 .f32

variable (P : Dev nD → Cont F)

/-- The first exchange's sum on device `c`; -/
def A1 (c : Dev nD) (u : Fin 8) : Cont F := addf (φ := .f32) (P c) (P (p1 c u))
/-- the second's; -/
def A2 (c : Dev nD) (u : Fin 8) : Cont F := addf (φ := .f32) (A1 P c u) (A1 P (p2 c u) u)
/-- the third's; -/
def A3 (c : Dev nD) (u : Fin 8) : Cont F :=
  addf (φ := .f32) (addf (φ := .f32) (addf (φ := .f32) (A2 P c u) (A2 P (zf c 0) u)) (A2 P (zf c 1) u)) (A2 P (zf c 2) u)
/-- and its activation. -/
def Y (c : Dev nD) (u : Fin 8) : Cont F := mulf (φ := .f32) (A3 P c u) (logistic (φ := .f32) (A3 P c u))

/-- The device that reduces the 64 rows numbered `b` of unit `u`. -/
def owner (u : Fin 8) (b : Nat) : Dev nD :=
  let v := b / 8 % 2
  let w := b / 4 % 2
  let x := if u.val < 4 then v else w
  let y := if u.val < 4 then w else v
  ⟨(4 * (b % 4) + 2 * y + (x ^^^ y)) % 16, Nat.mod_lt _ (by decide)⟩

theorem owner_r3 (c : Dev nD) (u : Fin 8) : owner u (r3 c u / 64) = c := by revert c u; decide +kernel
theorem r3_dvd (c : Dev nD) (u : Fin 8) : r3 c u % 64 = 0 := by revert c u; decide +kernel

def unitOf (i : S1024x1024.Idx) : Fin 8 := ⟨(i 1).val / 128, by have h : (i 1).val < 1024 := (i 1).isLt; omega⟩

/-- The finished result, each 64 rows of a unit as their device reduced them. -/
def Fn : Cont F := fun i => Y P (owner (unitOf i) ((i 0).val / 64)) (unitOf i) i

theorem Fn_blk (c : Dev nD) (u : Fin 8) (i : S1024x1024.Idx) (h : i ∈ blk 64 (r3 c u) u) : Y P c u i = Fn P i := by
  rw [mem_blk] at h
  have hu : unitOf i = u := Fin.ext (by show (i 1).val / 128 = u.val; omega)
  have hd := r3_dvd c u
  have hb : (i 0).val / 64 = r3 c u / 64 := by omega
  unfold Fn
  rw [hu, hb, owner_r3]

/-! ## The loads and the stores -/

/-- A landed piece, squeezed, is what the load of it gives. -/
theorem load3 (u : Fin 8) (g : (cc0_scratch0 : Ref sig .tc).ty.Contents (Elt F)) :
    shapeCast S512x128 (b3.view.readAt (Elt F) (rect3 u).toLoadRect g) shapeCasts_S1x512x128_S512x128 = (l3 u).view.read (Elt F) g := rfl
theorem load4 (u : Fin 8) (g : (cc0_scratch1 : Ref sig .tc).ty.Contents (Elt F)) :
    shapeCast S256x128 (b4.view.readAt (Elt F) (rect4 u).toLoadRect g) shapeCasts_S1x256x128_S256x128 = (l4 u).view.read (Elt F) g := rfl
theorem load5 (u : Fin 8) (t : Fin 3) (g : (cc0_scratch2 : Ref sig .tc).ty.Contents (Elt F)) :
    shapeCast S64x128 (b5.view.readAt (Elt F) (rect5 u t).toLoadRect g) shapeCasts_S1x1x64x128_S64x128 = (l5 u t).view.read (Elt F) g := rfl

theorem load2 {n r : Nat} {u : Fin 8} (h : Fits n (at_ r u)) (f : Cont F) :
    b2.view.readAt (Elt F) (rect n (at_ r u) h).toLoadRect f = (sl n (at_ r u) h).view.read (Elt F) f := rfl

/-- A block stored with what a reading of `g` there gives holds `g`. -/
theorem store_blk {n r : Nat} {u : Fin 8} (h : Fits n (at_ r u)) (f g : Cont F) (w : Vec F ⟨2, ![n, 128]⟩ .f32)
    (hw : w = (sl n (at_ r u) h).view.read (Elt F) g) (i : S1024x1024.Idx) (hi : i ∈ blk n r u) :
    (b2.access (rect n (at_ r u) h)).write (Elt F) f w Finset.univ i = g i := by
  subst hw
  rw [← set_sl h] at hi
  obtain ⟨x, -, rfl⟩ := Finset.mem_map.mp hi
  exact (View.write_emb_of_mem (v := (sl n (at_ r u) h).view) (Val := Elt F) f _ (Finset.mem_univ x)).trans rfl

theorem sumB_read {r : Nat} {u : Fin 8} (h : Fits 512 (at_ r u)) (f g : Cont F) (w : Vec F S1x512x128 .f32)
    (hw : shapeCast S512x128 w shapeCasts_S1x512x128_S512x128 = (sl 512 (at_ r u) h).view.read (Elt F) g) :
    sumB ((sl 512 (at_ r u) h).view.read (Elt F) f) w = (sl 512 (at_ r u) h).view.read (Elt F) (addf (φ := .f32) f g : Cont F) := by
  unfold sumB; rw [hw, shapeCast_self]; rfl
theorem sumC_read {r : Nat} {u : Fin 8} (h : Fits 256 (at_ r u)) (f g : Cont F) (w : Vec F S1x256x128 .f32)
    (hw : shapeCast S256x128 w shapeCasts_S1x256x128_S256x128 = (sl 256 (at_ r u) h).view.read (Elt F) g) :
    sumC ((sl 256 (at_ r u) h).view.read (Elt F) f) w = (sl 256 (at_ r u) h).view.read (Elt F) (addf (φ := .f32) f g : Cont F) := by
  unfold sumC; rw [hw, shapeCast_self]; rfl
theorem sumD_read {r : Nat} {u : Fin 8} (h : Fits 64 (at_ r u)) (f g0 g1 g2 : Cont F) (w0 w1 w2 : Vec F S1x1x64x128 .f32)
    (hw0 : shapeCast S64x128 w0 shapeCasts_S1x1x64x128_S64x128 = (sl 64 (at_ r u) h).view.read (Elt F) g0)
    (hw1 : shapeCast S64x128 w1 shapeCasts_S1x1x64x128_S64x128 = (sl 64 (at_ r u) h).view.read (Elt F) g1)
    (hw2 : shapeCast S64x128 w2 shapeCasts_S1x1x64x128_S64x128 = (sl 64 (at_ r u) h).view.read (Elt F) g2) :
    sumD ((sl 64 (at_ r u) h).view.read (Elt F) f) w0 w1 w2
      = (sl 64 (at_ r u) h).view.read (Elt F) (addf (φ := .f32) (addf (φ := .f32) (addf (φ := .f32) f g0) g1) g2 : Cont F) := by
  unfold sumD; rw [hw0, hw1, hw2, shapeCast_self]; rfl
theorem silu_read {r : Nat} {u : Fin 8} (h : Fits 64 (at_ r u)) (f : Cont F) :
    silu ((sl 64 (at_ r u) h).view.read (Elt F) f) = (sl 64 (at_ r u) h).view.read (Elt F) (mulf (φ := .f32) f (logistic (φ := .f32) f) : Cont F) := rfl

/-- A block written with what a reading of `f` there gives holds `f`. -/
theorem write_sl {n r : Nat} {u : Fin 8} (h : Fits n (at_ r u)) (f g : Cont F) (i : S1024x1024.Idx) (hi : i ∈ blk n r u) :
    (sl n (at_ r u) h).view.write (Elt F) f ((sl n (at_ r u) h).view.read (Elt F) g) Finset.univ i = g i :=
  store_blk h f g _ rfl i hi

end Cert.KernelIdeal.Own

end
-- ==== Proof.Sched.lean ====
/-
The protocol between the sixteen devices: its semaphore cells, what each transfer hands over, the levels the cells are
waited on in, and what a device still has to pay.

Ten kinds of transfer run per unit: the two halvings (`rs0`, `rs1`), the three pieces each way between the squares
(`zs t`, `zb t`), the two gatherings (`ag0`, `ag1`). Each has a send and a receive cell of one round. A transfer into
a landing buffer hands the receiver the buffer AND the rows it was sent from: the receiver sends the finished rows
back into those.
-/
module

public import proofs.«01_k».proof.Proof.Regions
public import Idealize.ShloMosaic.Lib.Pipeline.Launch
public import Idealize.ShloMosaic.Lib.Pipeline.Kit

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `c` runs `p` to `Q`. -/
abbrev WP (c : Dev nD) (p : KProg F) (Q : PUnit → sProp 𝕄) : sProp 𝕄 :=
  wp frame (wpE (defs₀ (F := F)) 𝒱₀ (c : Thread nD τ) none) Set.univ p Q

/-! ## Conjunctions along a list, and a loop over one -/

/-- `f` of every member of the list, conjoined. -/
def sepL {A : Type} (l : List A) (f : A → sProp 𝕄) : sProp 𝕄 := l.foldr (fun a R => iprop(f a ∗ R)) iprop(emp)

section SepL
variable {A : Type}

omit [FloatOps F] in
theorem sepL_nil (f : A → sProp 𝕄) : sepL [] f = iprop(emp) := rfl
omit [FloatOps F] in
theorem sepL_cons (a : A) (l : List A) (f : A → sProp 𝕄) : sepL (a :: l) f = iprop(f a ∗ sepL l f) := rfl

omit [FloatOps F] in
theorem sepL_mono (l : List A) {f g : A → sProp 𝕄} (h : ∀ a, f a ⊢ g a) : sepL l f ⊢ sepL l g := by
  induction l with
  | nil => exact BI.Entails.refl _
  | cons a l ih => rw [sepL_cons, sepL_cons]; exact BIClass.sep_mono (h a) ih

omit [FloatOps F] in
theorem sepL_sep (l : List A) (f g : A → sProp 𝕄) : sepL l (fun a => iprop(f a ∗ g a)) ⊢ iprop(sepL l f ∗ sepL l g) := by
  induction l with
  | nil => rw [sepL_nil, sepL_nil, sepL_nil]; iintro -; isplitl <;> iempintro
  | cons a l ih =>
    rw [sepL_cons, sepL_cons, sepL_cons]
    iintro ⟨⟨Hf, Hg⟩, H⟩
    ihave H' := ih $$ H
    icases H' with ⟨H1, H2⟩
    isplitl [Hf H1]
    · isplitl [Hf] <;> iassumption
    · isplitl [Hg] <;> iassumption

omit [FloatOps F] in
theorem sepL_join (l : List A) (f g : A → sProp 𝕄) : iprop(sepL l f ∗ sepL l g) ⊢ sepL l (fun a => iprop(f a ∗ g a)) := by
  induction l with
  | nil => rw [sepL_nil, sepL_nil, sepL_nil]; iintro -; iempintro
  | cons a l ih =>
    rw [sepL_cons, sepL_cons, sepL_cons]
    iintro ⟨⟨Hf, H1⟩, Hg, H2⟩
    isplitl [Hf Hg]
    · isplitl [Hf] <;> iassumption
    · iapply ih
      isplitl [H1] <;> iassumption

omit [FloatOps F] in
theorem sepL_eq (l : List A) (hl : l ≠ []) (f : A → sProp 𝕄) : sepL l f ⊣⊢ bigSepL l f := by
  induction l with
  | nil => exact absurd rfl hl
  | cons a l ih =>
    cases l with
    | nil => rw [sepL_cons, sepL_nil, bigSepL_singleton]; exact sep_emp
    | cons b l => rw [sepL_cons, bigSepL_cons_cons]; exact ⟨sep_mono_right (ih (by simp)).1, sep_mono_right (ih (by simp)).2⟩

omit [FloatOps F] in
theorem sepL_of_us (f : Fin 8 → sProp 𝕄) : bigSep Finset.univ f ⊢ sepL us f := by
  rw [bigSep_univ_eq_bigSepL us (by decide) (by decide)]; exact (sepL_eq us (by decide) f).2
omit [FloatOps F] in
theorem us_of_sepL (f : Fin 8 → sProp 𝕄) : sepL us f ⊢ bigSep Finset.univ f := by
  rw [bigSep_univ_eq_bigSepL us (by decide) (by decide)]; exact (sepL_eq us (by decide) f).1

instance sepL_storable (l : List A) (f : A → sProp 𝕄) [h : ∀ a, BI.Storable (upEmb : UEmb _ 𝕄) (f a)] :
    BI.Storable (upEmb : UEmb _ 𝕄) (sepL l f) := by
  induction l with
  | nil => show BI.Storable upEmb iprop(emp); infer_instance
  | cons a l ih => rw [sepL_cons]; infer_instance

/-- A loop over a list: one turn at an arbitrary member, with what each turn needs and gives per member, what it leaves
    alone, and what it threads. -/
theorem loop (c : Dev nD) (step : A → KProg F → KProg F) (C : sProp 𝕄) [BI.Persistent C] (Need Give R : A → sProp 𝕄) (I : List A → sProp 𝕄)
    (h : ∀ a l k Q, iprop(C ∗ Need a ∗ I (a :: l) ∗ ((Give a ∗ I l) -∗ WP c k Q)) ⊢ WP c (step a k) Q)
    (l : List A) (k : KProg F) (Q : PUnit → sProp 𝕄) :
    iprop(C ∗ sepL l (fun a => iprop(Need a ∗ R a)) ∗ I l ∗ ((sepL l (fun a => iprop(Give a ∗ R a)) ∗ I []) -∗ WP c k Q))
      ⊢ WP c (l.foldr step k) Q := by
  induction l generalizing k Q with
  | nil =>
    rw [sepL_nil, sepL_nil]
    iintro ⟨-, -, HI, Hk⟩
    iapply Hk
    isplitr; · iempintro
    iexact HI
  | cons a l ih =>
    rw [sepL_cons, sepL_cons]
    iintro ⟨#HC, ⟨⟨Hn, HR⟩, Hl⟩, HI, Hk⟩
    iapply (h a l (l.foldr step k) Q)
    isplitr; · iexact HC
    isplitl [Hn]; · iexact Hn
    isplitl [HI]; · iexact HI
    iintro ⟨Hg, HI⟩
    iapply (ih k Q)
    isplitr; · iexact HC
    isplitl [Hl]; · iexact Hl
    isplitl [HI]; · iexact HI
    iintro ⟨Hl, HI⟩
    iapply Hk
    isplitl [Hg HR Hl]
    · isplitl [Hg HR]
      · isplitl [Hg] <;> iassumption
      iexact Hl
    iexact HI

end SepL

/-! ## The cells -/

/-- The kinds of transfer. -/
inductive Kd where
  | rs0 | rs1 | zs (t : Fin 3) | zb (t : Fin 3) | ag0 | ag1
  deriving DecidableEq

instance : Fintype Kd where
  elems := {.rs0, .rs1, .zs 0, .zs 1, .zs 2, .zb 0, .zb 1, .zb 2, .ag0, .ag1}
  complete k := by
    cases k with
    | zs t => fin_cases t <;> decide
    | zb t => fin_cases t <;> decide
    | rs0 => decide
    | rs1 => decide
    | ag0 => decide
    | ag1 => decide

/-- A transfer cell of a device: its kind, whether it is the receiving side, its unit. -/
abbrev Ck : Type := Kd × Bool × Fin 8

/-- Its semaphore. -/
def sm : Ck → DmaSem sig
  | (.rs0, false, u) => closed.sRsS 0 u
  | (.rs0, true, u) => closed.sRsR 0 u
  | (.rs1, false, u) => closed.sRsS 1 u
  | (.rs1, true, u) => closed.sRsR 1 u
  | (.zs t, false, u) => closed.sZsS u t
  | (.zs t, true, u) => closed.sZsR u t
  | (.zb t, false, u) => closed.sZbS u t
  | (.zb t, true, u) => closed.sZbR u t
  | (.ag0, false, u) => closed.sAgS 0 u
  | (.ag0, true, u) => closed.sAgR 0 u
  | (.ag1, false, u) => closed.sAgS 1 u
  | (.ag1, true, u) => closed.sAgR 1 u

/-- The kernel's own semaphores are these. -/
def osem (ck : Ck) : SemLoc sig := .dma (sm ck)

theorem sm_injective : Function.Injective sm := by
  have h : ∀ a b : Ck, sm a = sm b → a = b := by decide +kernel
  exact fun a b => h a b
theorem osem_injective : Function.Injective osem := fun a b h => sm_injective (SemLoc.dma.inj h)

/-- The cell a semaphore is, if it is one. -/
def decC (s : SemLoc sig) : Option Ck := by
  classical exact if h : ∃ ck, osem ck = s then some (Classical.choose h) else none

theorem decC_osem (ck : Ck) : decC (osem ck) = some ck := by
  unfold decC
  have h : ∃ ck', osem ck' = osem ck := ⟨ck, rfl⟩
  rw [dif_pos h]; exact congrArg some (osem_injective (Classical.choose_spec h))
theorem decC_none (s : SemLoc sig) (h : ∀ ck, osem ck ≠ s) : decC s = none := by
  unfold decC; exact dif_neg (fun ⟨ck, hc⟩ => h ck hc)

abbrev barCell (c : Dev nD) : GSem nD τ sig := ((c : Thread nD τ), .reg barS)
abbrev dcell (c : Dev nD) (ck : Ck) : GSem nD τ sig := ((c : Thread nD τ), osem ck)

theorem osem_ne_bar (ck : Ck) : osem ck ≠ .reg barS := fun h => by cases h
theorem decC_bar : decC (.reg barS) = none := decC_none _ osem_ne_bar

/-- Whom device `c` sends kind `k` of unit `u` to, and whom it gets it from. -/
def peer (c : Dev nD) (k : Kd) (u : Fin 8) : Dev nD := match k with
  | .rs0 => p1 c u | .rs1 => p2 c u | .zs t => zp c t | .zb t => zp c t | .ag0 => p2 c u | .ag1 => p1 c u
def fro (c : Dev nD) (k : Kd) (u : Fin 8) : Dev nD := match k with
  | .rs0 => p1 c u | .rs1 => p2 c u | .zs t => zf c t | .zb t => zf c t | .ag0 => p2 c u | .ag1 => p1 c u

theorem fro_peer (c : Dev nD) (k : Kd) (u : Fin 8) : fro (peer c k u) k u = c := by
  cases k with
  | rs0 => exact p1_p1 c u | rs1 => exact p2_p2 c u | zs t => exact zf_zp c t | zb t => exact zf_zp c t
  | ag0 => exact p2_p2 c u | ag1 => exact p1_p1 c u
theorem peer_fro (c : Dev nD) (k : Kd) (u : Fin 8) : peer (fro c k u) k u = c := by
  cases k with
  | rs0 => exact p1_p1 c u | rs1 => exact p2_p2 c u | zs t => exact zp_zf c t | zb t => exact zp_zf c t
  | ag0 => exact p2_p2 c u | ag1 => exact p1_p1 c u

/-- The devices of the entry handshake. -/
def nbr (c : Dev nD) (j : Fin 5) : Dev nD := closed.dS j c
/-- The number under which the signalled device knows the signaller. -/
def dual : Fin 5 → Fin 5 := ![0, 1, 4, 3, 2]
theorem nbr_dual (c : Dev nD) (j : Fin 5) : nbr (nbr c j) (dual j) = c := by revert c j; decide +kernel
theorem dual_dual (j : Fin 5) : dual (dual j) = j := by revert j; decide

/-- What a transfer of a kind credits. -/
def rowsOf : Kd → Nat
  | .rs0 => 512 | .rs1 => 256 | .zs _ => 64 | .zb _ => 64 | .ag0 => 256 | .ag1 => 512
theorem rowsOf_le (k : Kd) : 0 + rowsOf k ≤ 1024 := by revert k; decide
theorem rowsOf_pos (k : Kd) : 0 < (⟨2, ![rowsOf k, 128]⟩ : Shape).numel := by
  cases k <;> simp [rowsOf, Shape.numel, Fin.prod_univ_two]
@[irreducible] def Nk (k : Kd) : ℕ := (sl (rowsOf k) (at_ 0 0) (fits 0 (rowsOf_le k))).view.dmaCredit
theorem Nk_pos (k : Kd) : 0 < Nk k := by unfold Nk; exact View.dmaCredit_pos _ (rowsOf_pos k)

/-! ## What is handed over -/

/-- Rows `r … r + n - 1` of unit `u` of device `d`'s result buffer, at contents `f`; at some contents. -/
def outP (d : Dev nD) (q : PosShare TreeShare) (n r : Nat) (u : Fin 8) (f : Cont F) : sProp 𝕄 :=
  ((d : Thread nD τ).loc cc0_stg2_0) ↦[blk n r u]{q} f
def outE (d : Dev nD) (n r : Nat) (u : Fin 8) : sProp 𝕄 := iprop(∃ f, outP d fullShare n r u f)

/-- Device `d`'s landing buffers; at some contents. -/
def land3 (d : Dev nD) (u : Fin 8) (g : (cc0_scratch0 : Ref sig .tc).ty.Contents (Elt F)) : sProp 𝕄 :=
  ((d : Thread nD τ).loc cc0_scratch0) ↦[(l3 u).view.set]{fullShare} g
def land4 (d : Dev nD) (u : Fin 8) (g : (cc0_scratch1 : Ref sig .tc).ty.Contents (Elt F)) : sProp 𝕄 :=
  ((d : Thread nD τ).loc cc0_scratch1) ↦[(l4 u).view.set]{fullShare} g
def land5 (d : Dev nD) (u : Fin 8) (t : Fin 3) (g : (cc0_scratch2 : Ref sig .tc).ty.Contents (Elt F)) : sProp 𝕄 :=
  ((d : Thread nD τ).loc cc0_scratch2) ↦[(l5 u t).view.set]{fullShare} g
def land3E (d : Dev nD) (u : Fin 8) : sProp 𝕄 := iprop(∃ g, land3 d u g)
def land4E (d : Dev nD) (u : Fin 8) : sProp 𝕄 := iprop(∃ g, land4 d u g)
def land5E (d : Dev nD) (t : Fin 3) (u : Fin 8) : sProp 𝕄 := iprop(∃ g, land5 d u t g)

omit [FloatOps F] in
instance outP_storable (d : Dev nD) (q n r u) (f : Cont F) : BI.Storable (upEmb : UEmb _ 𝕄) (outP d q n r u f) := by unfold outP; infer_instance
omit [FloatOps F] in
instance outE_storable (d : Dev nD) (n r u) : BI.Storable (upEmb : UEmb _ 𝕄) (outE (F := F) d n r u) := by unfold outE; infer_instance
omit [FloatOps F] in
instance land3_storable (d : Dev nD) (u g) : BI.Storable (upEmb : UEmb _ 𝕄) (land3 (F := F) d u g) := by unfold land3; infer_instance
omit [FloatOps F] in
instance land4_storable (d : Dev nD) (u g) : BI.Storable (upEmb : UEmb _ 𝕄) (land4 (F := F) d u g) := by unfold land4; infer_instance
omit [FloatOps F] in
instance land5_storable (d : Dev nD) (u t g) : BI.Storable (upEmb : UEmb _ 𝕄) (land5 (F := F) d u t g) := by unfold land5; infer_instance
omit [FloatOps F] in
instance land3E_storable (d : Dev nD) (u) : BI.Storable (upEmb : UEmb _ 𝕄) (land3E (F := F) d u) := by unfold land3E; infer_instance
omit [FloatOps F] in
instance land4E_storable (d : Dev nD) (u) : BI.Storable (upEmb : UEmb _ 𝕄) (land4E (F := F) d u) := by unfold land4E; infer_instance
omit [FloatOps F] in
instance land5E_storable (d : Dev nD) (t u) : BI.Storable (upEmb : UEmb _ 𝕄) (land5E (F := F) d t u) := by unfold land5E; infer_instance

variable (P : Dev nD → Cont F)

/-- The share of its finished rows a device lends to each of the three transfers to the other squares. -/
def zbShare : Fin 3 → PosShare TreeShare
  | 0 => fullShare.left.left | 1 => fullShare.left.right.left | 2 => fullShare.left.right.right

/-- What the landing of kind `k` of unit `u` hands device `d`. -/
def recvPay (d : Dev nD) (k : Kd) (u : Fin 8) : sProp 𝕄 := match k with
  | .rs0 => iprop((∃ g, ⌜(l3 u).view.read (Elt F) g = (sl 512 (at_ (r1 d u) u) (fits u (r1_le d u))).view.read (Elt F) (P (p1 d u))⌝ ∗ land3 d u g)
      ∗ outE (p1 d u) 512 (r1 d u) u)
  | .rs1 => iprop((∃ g, ⌜(l4 u).view.read (Elt F) g = (sl 256 (at_ (r2 d u) u) (fits u (r2_le d u))).view.read (Elt F) (A1 P (p2 d u) u)⌝ ∗ land4 d u g)
      ∗ outE (p2 d u) 256 (r2 d u) u)
  | .zs t => iprop((∃ g, ⌜(l5 u t).view.read (Elt F) g = (sl 64 (at_ (r3 d u) u) (fits u (r3_le d u))).view.read (Elt F) (A2 P (zf d t) u)⌝ ∗ land5 d u t g)
      ∗ outE (zf d t) 64 (r3 d u) u)
  | .zb t => outP d fullShare 64 (r3 (zf d t) u) u (Fn P)
  | .ag0 => outP d fullShare 256 (r2 (p2 d u) u) u (Fn P)
  | .ag1 => outP d fullShare 512 (r1 (p1 d u) u) u (Fn P)

/-- What its sending hands back. -/
def sendPay (d : Dev nD) (k : Kd) (u : Fin 8) : sProp 𝕄 := match k with
  | .rs0 => iprop(emp) | .rs1 => iprop(emp) | .zs _ => iprop(emp)
  | .zb t => outP d (zbShare t) 64 (r3 d u) u (Fn P)
  | .ag0 => outP d fullShare.right 256 (r2 d u) u (Fn P)
  | .ag1 => outP d fullShare 512 (r1 d u) u (Fn P)

/-- What device `d` gets with the `j`-th neighbour's signal: that neighbour's landing buffers `d` writes into. -/
def barPay (d : Dev nD) (j : Fin 5) : sProp 𝕄 := match j with
  | 0 => sepL us fun u => if u.val < 4 then land3E (xp d) u else land4E (xp d) u
  | 1 => sepL us fun u => if u.val < 4 then land4E (yp d) u else land3E (yp d) u
  | 2 => sepL us (land5E (zp d 0) 0)
  | 3 => sepL us (land5E (zp d 1) 1)
  | 4 => sepL us (land5E (zp d 2) 2)

def dmaPay (d : Dev nD) (ck : Ck) : sProp 𝕄 := if ck.2.1 then recvPay P d ck.1 ck.2.2 else sendPay P d ck.1 ck.2.2

/-- One round of one duty per transfer cell, of five for the barrier cell. -/
def Rd : Rounds.Schedule (GSem nD τ sig) (Fin 5) 𝕄 where
  duties g r := if r = 0 ∧ g.1.2 = .tc then (if g.2 = .reg barS then Finset.univ else if (decC g.2).isSome then {0} else ∅) else ∅
  unitless _ := False
  amount g _ _ := match decC g.2 with | some ck => Nk ck.1 | none => 1
  payload g _ j := match decC g.2 with | some ck => dmaPay P g.1.1 ck | none => barPay g.1.1 j
  amount_pos g _ _ _ := by
    cases decC g.2 with
    | none => exact Nat.one_pos
    | some ck => exact Nk_pos ck.1

instance barPay_storable (d : Dev nD) (j : Fin 5) : BI.Storable (upEmb : UEmb _ 𝕄) (barPay (F := F) d j) := by
  have h0 : ∀ u : Fin 8, BI.Storable (upEmb : UEmb _ 𝕄) (if u.val < 4 then land3E (F := F) (xp d) u else land4E (xp d) u) := fun u => by split <;> infer_instance
  have h1 : ∀ u : Fin 8, BI.Storable (upEmb : UEmb _ 𝕄) (if u.val < 4 then land4E (F := F) (yp d) u else land3E (yp d) u) := fun u => by split <;> infer_instance
  unfold barPay; split <;> infer_instance
instance recvPay_storable (d : Dev nD) (k : Kd) (u : Fin 8) : BI.Storable (upEmb : UEmb _ 𝕄) (recvPay P d k u) := by
  unfold recvPay; split <;> infer_instance
instance sendPay_storable (d : Dev nD) (k : Kd) (u : Fin 8) : BI.Storable (upEmb : UEmb _ 𝕄) (sendPay P d k u) := by
  unfold sendPay; split <;> infer_instance
instance Rd_payload_storable (g : GSem nD τ sig) (r : ℕ) (j : Fin 5) : BI.Storable (upEmb : UEmb _ 𝕄) ((Rd P).payload g r j) := by
  show BI.Storable upEmb (match decC g.2 with | some ck => dmaPay P g.1.1 ck | none => barPay g.1.1 j)
  unfold dmaPay
  (repeat' split) <;> infer_instance

section Facts
variable (c : Dev nD) (ck : Ck)

theorem duties_bar : (Rd P).duties (barCell c) 0 = Finset.univ := by dsimp only [Rd]; rw [if_pos ⟨rfl, rfl⟩, if_pos rfl]
theorem duties_dma : (Rd P).duties (dcell c ck) 0 = {0} := by
  dsimp only [Rd]; rw [if_pos ⟨rfl, rfl⟩, if_neg (osem_ne_bar ck), decC_osem]; rfl
theorem mem_duties_dma : (0 : Fin 5) ∈ (Rd P).duties (dcell c ck) 0 := by rw [duties_dma]; exact Finset.mem_singleton_self _
theorem duties_later (g : GSem nD τ sig) : ∀ r, 1 ≤ r → (Rd P).duties g r = ∅ :=
  fun r hr => by dsimp only [Rd]; rw [if_neg fun h => by omega]
theorem amount_bar (j : Fin 5) : (Rd P).amount (barCell c) 0 j = 1 := by dsimp only [Rd]; rw [decC_bar]
theorem amount_dma (j : Fin 5) : (Rd P).amount (dcell c ck) 0 j = Nk ck.1 := by dsimp only [Rd]; rw [decC_osem]
theorem payload_bar (j : Fin 5) : (Rd P).payload (barCell c) 0 j = barPay c j := by dsimp only [Rd]; rw [decC_bar]
theorem payload_dma (j : Fin 5) : (Rd P).payload (dcell c ck) 0 j = dmaPay P c ck := by dsimp only [Rd]; rw [decC_osem]
theorem expect_bar : (Rd P).expect (barCell c) 0 = 5 := by
  unfold Schedule.expect Schedule.amountOf
  rw [duties_bar, Finset.sum_congr rfl fun j _ => amount_bar P c j, Finset.sum_const, Finset.card_univ, Fintype.card_fin, smul_eq_mul]
theorem expect_dma : (Rd P).expect (dcell c ck) 0 = Nk ck.1 := by
  unfold Schedule.expect Schedule.amountOf; rw [duties_dma, Finset.sum_singleton, amount_dma]
theorem rest_bar : bigSep ((Rd P).duties (barCell c) 0 \ ∅) (fun j => (Rd P).payload (barCell c) 0 j)
    = iprop(barPay c 0 ∗ barPay c 1 ∗ barPay c 2 ∗ barPay c 3 ∗ barPay c 4) := by
  rw [Finset.sdiff_empty, duties_bar, bigSep_univ_eq_bigSepL [0, 1, 2, 3, 4] (by decide) (by decide)]
  simp only [bigSepL_cons_cons, bigSepL_singleton, payload_bar]
  rfl
theorem rest_dma : bigSep ((Rd P).duties (dcell c ck) 0 \ ∅) (fun j => (Rd P).payload (dcell c ck) 0 j) = dmaPay P c ck := by
  rw [Finset.sdiff_empty, duties_dma, bigSep_singleton, payload_dma]

end Facts

/-! ## What is owed, and the levels -/

/-- A payment: a signal of the entry handshake, or a transfer. -/
inductive Pay where
  | sig (j : Fin 5) | dma (k : Kd) (u : Fin 8)
  deriving DecidableEq

/-- The cell device `c` pays into, how much, and that cell's level. -/
def tgt (c : Dev nD) : Pay → GSem nD τ sig
  | .sig j => barCell (nbr c j)
  | .dma k u => dcell (peer c k u) (k, true, u)
def amt : Pay → ℕ
  | .sig _ => 1
  | .dma k _ => Nk k
def lvK : Kd → ℕ
  | .rs0 => 2 | .rs1 => 3 | .zs _ => 4 | .zb _ => 5 | .ag0 => 6 | .ag1 => 7
def lvP : Pay → ℕ
  | .sig _ => 1
  | .dma k _ => lvK k

/-- What device `c` owes that has these payments before it. -/
def owe (c : Dev nD) : List Pay → CellTallies nD τ sig Unit
  | [] => 0
  | p :: l => owe c l + tallyAt (tgt c p) () (amt p)

def L (g : GSem nD τ sig) : Finset Unit := if g.1.2 = .tc then {()} else ∅
def lv (g : GSem nD τ sig) (_ : Unit) : ℕ :=
  if g.2 = .reg barS then 1 else match decC g.2 with | some ck => if ck.2.1 then lvK ck.1 else 0 | none => 0

theorem L_of_ne (g : GSem nD τ sig) (h : g.1.2 ≠ .tc) : L g = ∅ := if_neg h
theorem L_tc (c : Dev nD) (s : SemLoc sig) : L ((c : Thread nD τ), s) = {()} := if_pos rfl

theorem lv_bar (c : Dev nD) : lv (barCell c) () = 1 := if_pos rfl
theorem lv_dma (c : Dev nD) (ck : Ck) : lv (dcell c ck) () = if ck.2.1 then lvK ck.1 else 0 := by
  unfold lv; rw [if_neg (osem_ne_bar ck), decC_osem]
theorem lv_tgt (c : Dev nD) (p : Pay) : lv (tgt c p) () = lvP p := by
  cases p with
  | sig j => exact lv_bar _
  | dma k u => exact (lv_dma _ _).trans (if_pos rfl)
theorem lv_other (c : Dev nD) (q : DmaSem sig) (h : ∀ ck, sm ck ≠ q) : lv ((c : Thread nD τ), .dma q) () = 0 := by
  unfold lv; rw [if_neg (fun h => by cases h), decC_none _ (fun ck hc => h ck (SemLoc.dma.inj hc))]

theorem owe_pos {c : Dev nD} {l : List Pay} {g : GSem nD τ sig} {x : Unit} (h : 0 < owe c l g x) : ∃ p ∈ l, g = tgt c p := by
  induction l with
  | nil => exact absurd h (Nat.lt_irrefl 0)
  | cons p l ih =>
    rw [owe, Pi.add_apply, Finsupp.add_apply, tallyAt_apply] at h
    by_cases hp : g = tgt c p
    · exact ⟨p, List.mem_cons_self, hp⟩
    · rw [if_neg (fun h' => hp h'.1), Nat.add_zero] at h
      obtain ⟨p', hp', hg⟩ := ih h
      exact ⟨p', List.mem_cons_of_mem _ hp', hg⟩

omit [FloatOps F] in
/-- A cell may be waited on while only payments of higher levels are owed. -/
theorem mayWait (c : Dev nD) (s : SemLoc sig) (l : List Pay) (h : ∀ p ∈ l, lv ((c : Thread nD τ), s) () < lvP p) :
    (levAts L lv : sProp 𝕄) ⊢ MayWait (c : Thread nD τ) s () (owe c l) :=
  MayOwe.of_cut (L := L) (lev := lv) (lv ((c : Thread nD τ), s) ())
    (fun p hp => by rw [Finset.mem_singleton.mp hp, L_tc]; exact Finset.mem_singleton_self _)
    (fun g x hg => by
      obtain ⟨p, -, rfl⟩ := owe_pos hg
      cases p <;> exact Finset.mem_singleton_self _)
    (fun p hp => by rw [Finset.mem_singleton.mp hp])
    (fun g x hg => by
      obtain ⟨p, hp, rfl⟩ := owe_pos hg
      rw [lv_tgt]; exact h p hp)

/-- The payments still before a device at the start of each phase. -/
def restG : List Pay := []
def restF : List Pay := us.map (Pay.dma .ag1) ++ restG
def restE : List Pay := us.map (Pay.dma .ag0) ++ restF
def zPays (f : Fin 3 → Kd) (l : List (Fin 8)) : List Pay := l.flatMap fun u => [Pay.dma (f 0) u, Pay.dma (f 1) u, Pay.dma (f 2) u]
def restD : List Pay := zPays Kd.zb us ++ restE
def restC : List Pay := zPays Kd.zs us ++ restD
def restB : List Pay := us.map (Pay.dma .rs1) ++ restC
def restA : List Pay := us.map (Pay.dma .rs0) ++ restB
def pays : List Pay := [Pay.sig 0, Pay.sig 1, Pay.sig 2, Pay.sig 3, Pay.sig 4] ++ restA

/-- Their levels. -/
def Above (n : ℕ) (l : List Pay) : Prop := ∀ p ∈ l, n < lvP p

theorem Above.append {n : ℕ} {l l' : List Pay} (h : Above n l) (h' : Above n l') : Above n (l ++ l') := fun p hp =>
  (List.mem_append.mp hp).elim (h p) (h' p)
theorem Above.mono {n m : ℕ} {l : List Pay} (h : Above n l) (hm : m ≤ n) : Above m l := fun p hp => lt_of_le_of_lt hm (h p hp)
theorem above_map {n : ℕ} (k : Kd) (h : n < lvK k) (l : List (Fin 8)) : Above n (l.map (Pay.dma k)) := fun p hp => by
  obtain ⟨u, -, rfl⟩ := List.mem_map.mp hp; exact h
theorem above_z {n : ℕ} (f : Fin 3 → Kd) (h : ∀ t, n < lvK (f t)) (l : List (Fin 8)) : Above n (zPays f l) := fun p hp => by
  obtain ⟨u, -, hu⟩ := List.mem_flatMap.mp hp
  simp only [List.mem_cons, List.not_mem_nil, or_false] at hu
  rcases hu with rfl | rfl | rfl
  · exact h 0
  · exact h 1
  · exact h 2
theorem above_G (n : ℕ) : Above n restG := fun p hp => absurd hp List.not_mem_nil
theorem above_F : Above 6 restF := (above_map .ag1 (by decide) us).append (above_G 6)
theorem above_E : Above 5 restE := (above_map .ag0 (by decide) us).append (above_F.mono (by decide))
theorem above_D : Above 4 restD := (above_z Kd.zb (fun _ => Nat.lt_succ_self 4) us).append (above_E.mono (by decide))
theorem above_C : Above 3 restC := (above_z Kd.zs (fun _ => Nat.lt_succ_self 3) us).append (above_D.mono (by decide))
theorem above_B : Above 2 restB := (above_map .rs1 (by decide) us).append (above_C.mono (by decide))
theorem above_A : Above 1 restA := (above_map .rs0 (by decide) us).append (above_B.mono (by decide))
theorem above_pays : Above 0 pays := Above.append (by intro p hp; fin_cases hp <;> exact Nat.one_pos) (above_A.mono (by decide))

end Cert.KernelIdeal.Own

end
-- ==== Proof.Rules.lean ====
/-
One rule per operation of the body, over the protocol of `Sched`: a transfer, a wait, a load, a store, a signal.
-/
module

public import proofs.«01_k».proof.Proof.Sched

@[expose] public section

set_option maxRecDepth 8000

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Cont F)

/-! ## The records -/

/-- A device's cells: the barrier cell and the transfer cells. -/
def csem : Option Ck → SemLoc sig
  | none => .reg barS
  | some ck => osem ck
abbrev kcell (ck : Dev nD × Option Ck) : GSem nD τ sig := ((ck.1 : Thread nD τ), csem ck.2)

/-- Every cell's invariant, and that it has reached its round. -/
def records (K : Dev nD × Option Ck → ℕ) : sProp 𝕄 :=
  iprop((bigSep Finset.univ fun ck : Dev nD × Option Ck => cellInv ER (Rd P) (K ck) (kcell ck))
    ∗ bigSep Finset.univ fun ck : Dev nD × Option Ck => reached ER (kcell ck) 0)
instance records_persistent (K : Dev nD × Option Ck → ℕ) : BI.Persistent (records P K) := by unfold records; infer_instance

/-- The records and the levels. -/
def ctx (K : Dev nD × Option Ck → ℕ) : sProp 𝕄 := iprop(records P K ∗ (levAts L lv : sProp 𝕄))
instance ctx_persistent (K : Dev nD × Option Ck → ℕ) : BI.Persistent (ctx P K) := by unfold ctx; infer_instance

section Ctx
variable (K : Dev nD × Option Ck → ℕ) (c : Dev nD)

theorem ctx_inv (ck : Dev nD × Option Ck) : ctx P K ⊢ cellInv ER (Rd P) (K ck) (kcell ck) := by
  unfold ctx records
  iintro ⟨⟨H, -⟩, -⟩
  have h : (bigSep Finset.univ fun ck : Dev nD × Option Ck => (cellInv ER (Rd P) (K ck) (kcell ck) : sProp 𝕄)) ⊢ cellInv ER (Rd P) (K ck) (kcell ck) :=
    bigSep_elim (Finset.mem_univ ck)
  iapply h; iexact H
theorem ctx_reached (ck : Dev nD × Option Ck) : ctx P K ⊢ reached ER (kcell ck) 0 := by
  unfold ctx records
  iintro ⟨⟨-, H⟩, -⟩
  have h : (bigSep Finset.univ fun ck : Dev nD × Option Ck => (reached ER (kcell ck) 0 : sProp 𝕄)) ⊢ reached ER (kcell ck) 0 :=
    bigSep_elim (Finset.mem_univ ck)
  iapply h; iexact H
theorem ctx_lev : ctx P K ⊢ (levAts L lv : sProp 𝕄) := by
  unfold ctx
  iintro ⟨-, H⟩
  iexact H

/-! ## A transfer cell's states -/

/-- What is left to pay, whatever waits are recorded. -/
def owesE (l : List Pay) : sProp 𝕄 := iprop(∃ W, owes (c : Thread nD τ) (owe c l) W)

/-- Before its transfer is issued: both cells at their start, the credit of what arrives, the right to pay its own and its
    peer's. -/
def idle (k : Kd) (u : Fin 8) : sProp 𝕄 :=
  iprop(atPos ER (dcell c (k, false, u)) 0 ∅ 0 ∗ atPos ER (dcell c (k, true, u)) 0 ∅ 0 ∗ cred (tallyAt (dcell c (k, true, u)) () (Nk k))
    ∗ dutyTok ER (dcell c (k, false, u)) 0 0 ∗ dutyTok ER (dcell (peer c k u) (k, true, u)) 0 0)
/-- A cell that can be waited on; -/
def sent (ck : Ck) : sProp 𝕄 := iprop(atPos ER (dcell c ck) 0 ∅ 0 ∗ cred (tallyAt (dcell c ck) () (Nk ck.1)))
/-- that has been. -/
def done (ck : Ck) : sProp 𝕄 := semVal (dcell c ck) 0

/-! ## Waits -/

theorem wait_cell (ck : Ck) {sp sp' : Space} {s s' : Shape} {e e' : EltTy} {src : Memref sig .tc sp' s' e'} {dst : Memref sig .tc sp s e}
    {h1 : src.view.WordExact} {h2 : dst.view.WordExact} (hN : dst.view.dmaCredit = Nk ck.1)
    (l : List Pay) (hl : Above (if ck.2.1 then lvK ck.1 else 0) l) (k : KProg F) (Q : PUnit → sProp 𝕄) :
    iprop(ctx P K ∗ sent c ck ∗ owesE c l ∗ ((dmaPay P c ck ∗ done c ck ∗ owesE c l) -∗ WP c k Q))
      ⊢ WP c (.op (.waitDma2 (sm ck) src dst h1 h2) fun _ => k) Q := by
  unfold sent owesE done
  have hlt : ∀ p ∈ l, lv ((c : Thread nD τ), osem ck) () < lvP p := fun p hp => lt_of_eq_of_lt (lv_dma c ck) (hl p hp)
  have hmw0 : (levAts L lv : sProp 𝕄) ⊢ MayWait (c : Thread nD τ) (osem ck) () (owe c l) := mayWait c (osem ck) l hlt
  have hmw1 : ctx P K ⊢ (levAts L lv : sProp 𝕄) := ctx_lev P K
  have hmw : ctx P K ⊢ MayWait (c : Thread nD τ) (osem ck) () (owe c l) := hmw1.trans hmw0
  iintro ⟨#Hctx, ⟨Hat, Hcr⟩, ⟨%W, HO⟩, Hk⟩
  have hx : (Rd P).expect ((c : Thread nD τ), osem ck) 0 = Nk ck.1 := expect_dma P c ck
  have hw : ∀ K' : PUnit → sProp 𝕄, wpE (defs₀ (F := F)) 𝒱₀ (c : Thread nD τ) none Set.univ (TpuEff.waitDma2 (sm ck) src dst h1 h2) K'
      = waitSpec (c : Thread nD τ) Set.univ (osem ck) (Nk ck.1) K' := fun K' =>
    (wpE_waitDma2_eq 𝒱₀ (c : Thread nD τ) none Set.univ K').trans (by rw [hN]; rfl)
  have hwt := Rounds.wp_wait_rest_token 𝒱₀ ER (Rd P) (c : Thread nD τ) none (κ := K (c, some ck)) (sm := osem ck) (k' := Nk ck.1)
      (w := .waitDma2 (sm ck) src dst h1 h2) (k := fun _ => k) (Q := Q) (Es := Set.univ)
      hw (Set.mem_univ _) () (O := owe c l) (W := W) (R := 0) (m := 0) (T := ∅) ((Nat.zero_add _).trans hx.symm)
  iapply hwt $$ [Hcr HO Hat]
  · isplitr; · iapply (ctx_inv P K (c, some ck)); iexact Hctx
    isplitl [Hcr]; · iexact Hcr
    isplitl [HO]; · iexact HO
    isplitr
    · iapply hmw; iexact Hctx
    iexact Hat
  iintro ⟨HO, Hat, -, Hpay⟩
  ihave Hp := (Entails.of_eq (rest_dma P c ck)) $$ Hpay
  imod (Rounds.cell_close ER (Rd P) (Set.mem_univ (K (c, some ck))) (fun h => h) (R := 0 + 1) (duties_later P (dcell c ck))) $$ [Hat] with Hz
  · isplitr; · iapply (ctx_inv P K (c, some ck)); iexact Hctx
    iexact Hat
  iapply Hk
  isplitl [Hp]; · iexact Hp
  isplitl [Hz]; · iexact Hz
  iexists _; iexact HO

/-! ## Transfers -/

/-- A transfer whose source comes back with the sending. -/
theorem send_keep (k : Kd) (u : Fin 8) (d : Dev nD) (hd : d = peer c k u) {n r : Nat} {h : Fits n (at_ r u)}
    {hsc : (sl n (at_ r u) h : Memref sig (Dev.tc d : Thread nD τ).2.kind .vmem ⟨2, ![n, 128]⟩ .f32).view.ref.isScScratch = false}
    {hsrc : (sl n (at_ r u) h).view.WordExact}
    {hdst : (sl n (at_ r u) h).view.WordExact}
    {hsem : DmaTarget.Typed .vmem (.dma (sm (k, true, u))) (.remote (Dev.tc d : Thread nD τ) (sl n (at_ r u) h) (.dma (sm (k, false, u))) hsc)}
    (hN : (sl n (at_ r u) h).view.dmaCredit = Nk k) (q : PosShare TreeShare)
    (hs : outP c q n r u (Fn P) ⊢ sendPay P c k u) (hr : outP d fullShare n r u (Fn P) ⊢ recvPay P d k u)
    (l : List Pay) (p : KProg F) (Q : PUnit → sProp 𝕄) :
    iprop(ctx P K ∗ idle c k u ∗ outP c q n r u (Fn P) ∗ outE d n r u ∗ owesE c (Pay.dma k u :: l)
        ∗ ((sent c (k, false, u) ∗ sent c (k, true, u) ∗ owesE c l) -∗ WP c p Q))
      ⊢ WP c (.op (.enqueueDma (sl n (at_ r u) h) (.remote (Dev.tc d : Thread nD τ) (sl n (at_ r u) h) (.dma (sm (k, false, u))) hsc) (.dma (sm (k, true, u)))
          hsrc hdst hsem) fun _ => p) Q := by
  subst hd
  unfold idle sent owesE outE
  iintro ⟨#Hctx, ⟨Ha1, Ha2, Hc2, Ht1, Ht2⟩, Hsrc, ⟨%fd, Hdst⟩, ⟨%W, HO⟩, Hk⟩
  have hb := set_sl h
  have hsrc' : outP c q n r u (Fn P) ⊢ ((sl n (at_ r u) h).view.loc (c : Thread nD τ) ↦[(sl n (at_ r u) h).view.set]{q} (Fn P)) := by
    unfold outP; rw [hb]
  have hsrc'' : ((sl n (at_ r u) h).view.loc (c : Thread nD τ) ↦[(sl n (at_ r u) h).view.set]{q} (Fn P)) ⊢ outP c q n r u (Fn P) := by
    unfold outP; rw [hb]
  have hdst' : outP (peer c k u) fullShare n r u fd ⊢ ((sl n (at_ r u) h).view.loc (peer c k u : Thread nD τ) ↦[(sl n (at_ r u) h).view.set]{fullShare} fd) := by
    unfold outP; rw [hb]
  have hw : ((sl n (at_ r u) h).view.loc (peer c k u : Thread nD τ) ↦[(sl n (at_ r u) h).view.set]{fullShare}
        ((sl n (at_ r u) h).view.write (Elt F) fd ((sl n (at_ r u) h).view.read (Elt F) (Fn P)) Finset.univ))
      ⊢ outP (peer c k u) fullShare n r u (Fn P) := by
    unfold outP; rw [hb]
    exact Entails.of_eq (pointsTo_congr fun i hi => write_sl h fd (Fn P) i hi)
  ihave Hsrc := hsrc' $$ Hsrc
  ihave Hdst := hdst' $$ Hdst
  iapply (Rounds.wp_send_pointsTo 𝒱₀ ER (Rd P) (c : Thread nD τ) none (c' := (peer c k u : Thread nD τ)) (src := sl n (at_ r u) h) (dst := sl n (at_ r u) h)
      (sS := osem (k, false, u)) (sem := osem (k, true, u)) (κ₁ := K (c, some (k, false, u))) (κ₂ := K (peer c k u, some (k, true, u)))
      (r₁ := 0) (r₂ := 0) (d₁ := 0) (d₂ := 0) (fs := Fn P) (fd := fd) (q := q) (hsc := hsc) (hsrc := hsrc) (hdst := hdst) (hsem := hsem)
      (mem_duties_dma P c _) (mem_duties_dma P _ _) () () (Nk k) hN (amount_dma P c (k, false, u) 0) (amount_dma P _ (k, true, u) 0) (owe c l) rfl (W := W)
      (by rw [payload_dma]; exact hsrc''.trans hs) (by rw [payload_dma]; exact hw.trans hr)) $$ [Hsrc Hdst HO Ht1 Ht2]
  · isplitr; · iapply (ctx_inv P K (c, some (k, false, u))); iexact Hctx
    isplitr; · iapply (ctx_inv P K (peer c k u, some (k, true, u))); iexact Hctx
    isplitl [Hsrc]; · iexact Hsrc
    isplitl [Hdst]; · iexact Hdst
    isplitl [HO]; · iexact HO
    isplitl [Ht1]; · iexact Ht1
    isplitr; · iapply (ctx_reached P K (c, some (k, false, u))); iexact Hctx
    isplitl [Ht2]; · iexact Ht2
    iapply (ctx_reached P K (peer c k u, some (k, true, u))); iexact Hctx
  iintro ⟨Hc1, HO⟩
  iapply Hk
  isplitl [Ha1 Hc1]
  · isplitl [Ha1] <;> iassumption
  isplitl [Ha2 Hc2]
  · isplitl [Ha2] <;> iassumption
  iexists W; iexact HO

/-- A transfer into a landing buffer, whose source goes to the receiver with the landing. -/
theorem send_land (k : Kd) (u : Fin 8) (d : Dev nD) (hd : d = peer c k u) {n r : Nat} {h : Fits n (at_ r u)}
    {dst : Memref sig (Dev.tc d : Thread nD τ).2.kind .vmem ⟨2, ![n, 128]⟩ .f32} {hsc : dst.view.ref.isScScratch = false}
    {hsrc : (sl n (at_ r u) h).view.WordExact} {hdst : dst.view.WordExact}
    {hsem : DmaTarget.Typed .vmem (.dma (sm (k, true, u))) (.remote (Dev.tc d : Thread nD τ) dst (.dma (sm (k, false, u))) hsc)}
    (hN : dst.view.dmaCredit = Nk k) (f : Cont F) (fd : Buf (Elt F) (dst.view.loc (Dev.tc d : Thread nD τ)))
    (hs : (iprop(emp) : sProp 𝕄) ⊢ sendPay P c k u)
    (hr : iprop((dst.view.loc (Dev.tc d : Thread nD τ) ↦[dst.view.set]{fullShare} (dst.view.write (Elt F) fd ((sl n (at_ r u) h).view.read (Elt F) f) Finset.univ))
        ∗ outP c fullShare n r u f) ⊢ recvPay P d k u)
    (l : List Pay) (p : KProg F) (Q : PUnit → sProp 𝕄) :
    iprop(ctx P K ∗ idle c k u ∗ outP c fullShare n r u f ∗ (dst.view.loc (Dev.tc d : Thread nD τ) ↦[dst.view.set]{fullShare} fd) ∗ owesE c (Pay.dma k u :: l)
        ∗ ((sent c (k, false, u) ∗ sent c (k, true, u) ∗ owesE c l) -∗ WP c p Q))
      ⊢ WP c (.op (.enqueueDma (sl n (at_ r u) h) (.remote (Dev.tc d : Thread nD τ) dst (.dma (sm (k, false, u))) hsc) (.dma (sm (k, true, u)))
          hsrc hdst hsem) fun _ => p) Q := by
  subst hd
  unfold idle sent owesE
  iintro ⟨#Hctx, ⟨Ha1, Ha2, Hc2, Ht1, Ht2⟩, Hsrc, Hdst, ⟨%W, HO⟩, Hk⟩
  have hb := set_sl h
  have hsrc' : outP c fullShare n r u f ⊢ ((sl n (at_ r u) h).view.loc (c : Thread nD τ) ↦[(sl n (at_ r u) h).view.set]{fullShare} f) := by
    unfold outP; rw [hb]
  have hsrc'' : ((sl n (at_ r u) h).view.loc (c : Thread nD τ) ↦[(sl n (at_ r u) h).view.set]{fullShare} f) ⊢ outP c fullShare n r u f := by
    unfold outP; rw [hb]
  ihave Hsrc := hsrc' $$ Hsrc
  iapply (Rounds.wp_send_landing_pointsTo 𝒱₀ ER (Rd P) (c : Thread nD τ) none (c' := (peer c k u : Thread nD τ)) (src := sl n (at_ r u) h) (dst := dst)
      (sS := osem (k, false, u)) (sem := osem (k, true, u)) (κ₁ := K (c, some (k, false, u))) (κ₂ := K (peer c k u, some (k, true, u)))
      (r₁ := 0) (r₂ := 0) (d₁ := 0) (d₂ := 0) (fs := f) (fd := fd) (q := fullShare) (hsc := hsc) (hsrc := hsrc) (hdst := hdst) (hsem := hsem)
      (mem_duties_dma P c _) (mem_duties_dma P _ _) () () (Nk k) hN (amount_dma P c (k, false, u) 0) (amount_dma P _ (k, true, u) 0) (owe c l) rfl (W := W)
      (by rw [payload_dma]; exact hs) (by rw [payload_dma]; exact (sep_mono_right hsrc'').trans hr)) $$ [Hsrc Hdst HO Ht1 Ht2]
  · isplitr; · iapply (ctx_inv P K (c, some (k, false, u))); iexact Hctx
    isplitr; · iapply (ctx_inv P K (peer c k u, some (k, true, u))); iexact Hctx
    isplitl [Hsrc]; · iexact Hsrc
    isplitl [Hdst]; · iexact Hdst
    isplitl [HO]; · iexact HO
    isplitl [Ht1]; · iexact Ht1
    isplitr; · iapply (ctx_reached P K (c, some (k, false, u))); iexact Hctx
    isplitl [Ht2]; · iexact Ht2
    iapply (ctx_reached P K (peer c k u, some (k, true, u))); iexact Hctx
  iintro ⟨Hc1, HO⟩
  iapply Hk
  isplitl [Ha1 Hc1]
  · isplitl [Ha1] <;> iassumption
  isplitl [Ha2 Hc2]
  · isplitl [Ha2] <;> iassumption
  iexists W; iexact HO

/-! ## Loads and stores -/

omit P K in
theorem load_out {n r : Nat} {u : Fin 8} {h : Fits n (at_ r u)} {hl : b2.view.LoadsAt (rect n (at_ r u) h).toLoadRect} (q : PosShare TreeShare) (f : Cont F)
    (k : Vec F ⟨2, ![n, 128]⟩ .f32 → KProg F) (Q : PUnit → sProp 𝕄) :
    iprop(outP c q n r u f ∗ (outP c q n r u f -∗ WP c (k ((sl n (at_ r u) h).view.read (Elt F) f)) Q))
      ⊢ WP c (.op (.load b2 (rect n (at_ r u) h).toLoadRect hl) k) Q := by
  unfold outP
  iintro ⟨H, Hk⟩
  iapply (wp_load 𝒱₀ (c : Thread nD τ) none Set.univ (m := b2) (r := (rect n (at_ r u) h).toLoadRect)
    (S := blk n r u) (setOn_rect h).subset) $$ H
  iexact Hk

omit P K in
theorem load_l3 {u : Fin 8} {hl : b3.view.LoadsAt (rect3 u).toLoadRect} (g : (cc0_scratch0 : Ref sig .tc).ty.Contents (Elt F))
    (k : Vec F S1x512x128 .f32 → KProg F) (Q : PUnit → sProp 𝕄) :
    iprop(land3 c u g ∗ (land3 c u g -∗ WP c (k (b3.view.readAt (Elt F) (rect3 u).toLoadRect g)) Q))
      ⊢ WP c (.op (.load b3 (rect3 u).toLoadRect hl) k) Q := by
  unfold land3
  iintro ⟨H, Hk⟩
  iapply (wp_load 𝒱₀ (c : Thread nD τ) none Set.univ (m := b3) (r := (rect3 u).toLoadRect)
    (S := (l3 u).view.set) (set_l3 u).symm.subset) $$ H
  iexact Hk
omit P K in
theorem load_l4 {u : Fin 8} {hl : b4.view.LoadsAt (rect4 u).toLoadRect} (g : (cc0_scratch1 : Ref sig .tc).ty.Contents (Elt F))
    (k : Vec F S1x256x128 .f32 → KProg F) (Q : PUnit → sProp 𝕄) :
    iprop(land4 c u g ∗ (land4 c u g -∗ WP c (k (b4.view.readAt (Elt F) (rect4 u).toLoadRect g)) Q))
      ⊢ WP c (.op (.load b4 (rect4 u).toLoadRect hl) k) Q := by
  unfold land4
  iintro ⟨H, Hk⟩
  iapply (wp_load 𝒱₀ (c : Thread nD τ) none Set.univ (m := b4) (r := (rect4 u).toLoadRect)
    (S := (l4 u).view.set) (set_l4 u).symm.subset) $$ H
  iexact Hk
omit P K in
theorem load_l5 {u : Fin 8} {t : Fin 3} {hl : b5.view.LoadsAt (rect5 u t).toLoadRect} (g : (cc0_scratch2 : Ref sig .tc).ty.Contents (Elt F))
    (k : Vec F S1x1x64x128 .f32 → KProg F) (Q : PUnit → sProp 𝕄) :
    iprop(land5 c u t g ∗ (land5 c u t g -∗ WP c (k (b5.view.readAt (Elt F) (rect5 u t).toLoadRect g)) Q))
      ⊢ WP c (.op (.load b5 (rect5 u t).toLoadRect hl) k) Q := by
  unfold land5
  iintro ⟨H, Hk⟩
  iapply (wp_load 𝒱₀ (c : Thread nD τ) none Set.univ (m := b5) (r := (rect5 u t).toLoadRect)
    (S := (l5 u t).view.set) (set_l5 u t).symm.subset) $$ H
  iexact Hk

omit P K in
/-- A block stored with the reading of `g` there holds `g`. -/
theorem store_out {n r : Nat} {u : Fin 8} {h : Fits n (at_ r u)} {w : Vec F ⟨2, ![n, 128]⟩ .f32}
    {hx : (b2.access (rect n (at_ r u) h)).Stores Finset.univ} {hm : (Finset.univ : Finset (rect n (at_ r u) h).shape.Idx) = Finset.univ ∨ ∀ a, (rect n (at_ r u) h).stride a = 1}
    (f g : Cont F) (hw : w = (sl n (at_ r u) h).view.read (Elt F) g) (k : KProg F) (Q : PUnit → sProp 𝕄) :
    iprop(outP c fullShare n r u f ∗ (outP c fullShare n r u g -∗ WP c k Q))
      ⊢ WP c (.op (.store b2 (rect n (at_ r u) h) w Finset.univ hx hm) fun _ => k) Q := by
  unfold outP
  iintro ⟨H, Hk⟩
  iapply (wp_store 𝒱₀ (c : Thread nD τ) none Set.univ (m := b2) (r := rect n (at_ r u) h) (Mk := Finset.univ) (f := f)
    (S := blk n r u) (set_access h).subset) $$ H
  iintro H
  iapply Hk
  iapply (Entails.of_eq (pointsTo_congr fun i hi => store_blk h f g w hw i hi)) $$ H

end Ctx

/-! ## Cutting and joining blocks -/

section Blocks
omit [FloatOps F] P
variable (c d : Dev nD) (q : PosShare TreeShare) (u : Fin 8) (f g : Cont F)

theorem out_congr {n r : Nat} (h : ∀ i ∈ blk n r u, f i = g i) : outP d q n r u f = outP d q n r u g := pointsTo_congr h

theorem out_half : outP d q 1024 0 u f ⊣⊢ iprop(outP d q 512 (r1 c u) u f ∗ outP d q 512 (r1 (p1 c u) u) u f) := by
  unfold outP; rw [blk_half c u]; exact pointsTo_union (blk_half_disjoint c u)
theorem out_quarter : outP d q 512 (r1 c u) u f ⊣⊢ iprop(outP d q 256 (r2 c u) u f ∗ outP d q 256 (r2 (p2 c u) u) u f) := by
  unfold outP; rw [blk_quarter c u]; exact pointsTo_union (blk_quarter_disjoint c u)
theorem out_sixteenth : outP d q 256 (r2 c u) u f ⊣⊢ iprop(outP d q 64 (r3 c u) u f
    ∗ outP d q 64 (r3 (zp c 0) u) u f ∗ outP d q 64 (r3 (zp c 1) u) u f ∗ outP d q 64 (r3 (zp c 2) u) u f) := by
  unfold outP; rw [blk_sixteenth c u]
  exact ⟨(pointsTo_union (blk_sixteenth_disjoint c u)).1.trans (sep_mono_right ((pointsTo_union (blk_sixteenth_disjoint' c u)).1.trans
      (sep_mono_right (pointsTo_union (blk_sixteenth_disjoint'' c u)).1))),
    (sep_mono_right ((sep_mono_right (pointsTo_union (blk_sixteenth_disjoint'' c u)).2).trans (pointsTo_union (blk_sixteenth_disjoint' c u)).2)).trans
      (pointsTo_union (blk_sixteenth_disjoint c u)).2⟩

theorem out_share {n r : Nat} : outP d q n r u f ⊣⊢ iprop(outP d q.left n r u f ∗ outP d q.right n r u f) := by
  unfold outP; exact pointsTo_share (PosShare.mem_left_op_right q)

theorem out_whole : ((d : Thread nD τ).loc cc0_stg2_0 ↦{q} f : sProp 𝕄) = bigSep Finset.univ fun u => outP d q 1024 0 u f := by
  unfold outP
  have h := pointsTo_biUnion (Ix := Unit) (Val := Elt F) (Name := ℕ) (U := UU) (Lvl := ℕ) (ℓ := (d : Thread nD τ).loc cc0_stg2_0) (q := q) (f := f)
    (Finset.univ : Finset (Fin 8)) (fun u => blk 1024 0 u) (fun t _ t' _ h => blk_units_disjoint t t' h)
  exact (congrArg (fun S => ((d : Thread nD τ).loc cc0_stg2_0 ↦[S]{q} f : sProp 𝕄)) blk_units.symm).trans h

end Blocks

end Cert.KernelIdeal.Own

end
-- ==== Proof.Steps.lean ====
/-
One turn of each of the seven phases, at an arbitrary unit of an arbitrary device: what it needs, what it gives.
-/
module

public import proofs.«01_k».proof.Proof.Rules

@[expose] public section

set_option maxRecDepth 8000

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Cont F)

/-! ## What the landings hand over -/

section Landings
variable (c : Dev nD) (u : Fin 8)

theorem recv_rs0 {h : Fits 512 (at_ (r1 (p1 c u) u) u)} (fd : Buf (Elt F) ((l3 u).view.loc (p1 c u : Thread nD τ))) :
    iprop(((l3 u).view.loc (p1 c u : Thread nD τ) ↦[(l3 u).view.set]{fullShare} ((l3 u).view.write (Elt F) fd ((sl 512 (at_ (r1 (p1 c u) u) u) h).view.read (Elt F) (P c)) Finset.univ))
      ∗ outP c fullShare 512 (r1 (p1 c u) u) u (P c)) ⊢ recvPay P (p1 c u) .rs0 u := by
  unfold recvPay land3 outE; dsimp only; rw [p1_p1 c u]
  iintro ⟨H, Ho⟩
  isplitl [H]
  · iexists ((l3 u).view.write (Elt F) fd ((sl 512 (at_ (r1 (p1 c u) u) u) h).view.read (Elt F) (P c)) Finset.univ)
    isplitr
    · ipureintro; exact View.read_write_univ _ _
    iexact H
  iexists _; iexact Ho

theorem recv_rs1 {h : Fits 256 (at_ (r2 (p2 c u) u) u)} (fd : Buf (Elt F) ((l4 u).view.loc (p2 c u : Thread nD τ))) :
    iprop(((l4 u).view.loc (p2 c u : Thread nD τ) ↦[(l4 u).view.set]{fullShare} ((l4 u).view.write (Elt F) fd ((sl 256 (at_ (r2 (p2 c u) u) u) h).view.read (Elt F) (A1 P c u)) Finset.univ))
      ∗ outP c fullShare 256 (r2 (p2 c u) u) u (A1 P c u)) ⊢ recvPay P (p2 c u) .rs1 u := by
  unfold recvPay land4 outE; dsimp only; rw [p2_p2 c u]
  iintro ⟨H, Ho⟩
  isplitl [H]
  · iexists ((l4 u).view.write (Elt F) fd ((sl 256 (at_ (r2 (p2 c u) u) u) h).view.read (Elt F) (A1 P c u)) Finset.univ)
    isplitr
    · ipureintro; exact View.read_write_univ _ _
    iexact H
  iexists _; iexact Ho

theorem recv_zs (t : Fin 3) {h : Fits 64 (at_ (r3 (zp c t) u) u)} (fd : Buf (Elt F) ((l5 u t).view.loc (zp c t : Thread nD τ))) :
    iprop(((l5 u t).view.loc (zp c t : Thread nD τ) ↦[(l5 u t).view.set]{fullShare} ((l5 u t).view.write (Elt F) fd ((sl 64 (at_ (r3 (zp c t) u) u) h).view.read (Elt F) (A2 P c u)) Finset.univ))
      ∗ outP c fullShare 64 (r3 (zp c t) u) u (A2 P c u)) ⊢ recvPay P (zp c t) (.zs t) u := by
  unfold recvPay land5 outE; dsimp only; rw [zf_zp c t]
  iintro ⟨H, Ho⟩
  isplitl [H]
  · iexists ((l5 u t).view.write (Elt F) fd ((sl 64 (at_ (r3 (zp c t) u) u) h).view.read (Elt F) (A2 P c u)) Finset.univ)
    isplitr
    · ipureintro; exact View.read_write_univ _ _
    iexact H
  iexists _; iexact Ho

theorem recv_zb (t : Fin 3) : outP (zp c t) fullShare 64 (r3 c u) u (Fn P) ⊢ recvPay P (zp c t) (.zb t) u := by
  unfold recvPay; dsimp only; rw [zf_zp c t]
theorem recv_ag0 : outP (p2 c u) fullShare 256 (r2 c u) u (Fn P) ⊢ recvPay P (p2 c u) .ag0 u := by
  unfold recvPay; dsimp only; rw [p2_p2 c u]
theorem recv_ag1 : outP (p1 c u) fullShare 512 (r1 c u) u (Fn P) ⊢ recvPay P (p1 c u) .ag1 u := by
  unfold recvPay; dsimp only; rw [p1_p1 c u]

end Landings

/-! ## The phases -/

section Phases
variable (K : Dev nD × Option Ck → ℕ) (c : Dev nD)

/-- Conjoined over the three other squares. -/
def s3 (f : Fin 3 → sProp 𝕄) : sProp 𝕄 := iprop(f 0 ∗ f 1 ∗ f 2)

abbrev needA (u : Fin 8) : sProp 𝕄 := iprop(outP c fullShare 512 (r1 (p1 c u) u) u (P c) ∗ land3E (p1 c u) u ∗ idle c .rs0 u)
abbrev giveA (u : Fin 8) : sProp 𝕄 := iprop(sent c (.rs0, false, u) ∗ sent c (.rs0, true, u))

theorem step_A (u : Fin 8) (l : List (Fin 8)) (k : KProg F) (Q : PUnit → sProp 𝕄) :
    iprop(ctx P K ∗ needA P c u ∗ owesE c ((u :: l).map (Pay.dma .rs0) ++ restB) ∗ ((giveA c u ∗ owesE c (l.map (Pay.dma .rs0) ++ restB)) -∗ WP c k Q))
      ⊢ WP c (stepA closed c u k) Q := by
  unfold needA land3E land3
  iintro ⟨#Hctx, ⟨Ho, ⟨%g, Hl⟩, Hi⟩, HO, Hk⟩
  have h := send_land P K c .rs0 u (p1 c u) rfl (n := 512) (r := r1 (p1 c u) u) (h := fits u (r1_le _ u)) (dst := l3 u) (hsc := rfl)
    (hsrc := View.wordExact_bits rfl) (hdst := (View.wordExact_bits rfl).reshape _ _) (hsem := ⟨⟨rfl, Or.inl rfl⟩, trivial⟩)
    (by unfold Nk; rfl) (P c) g (BI.Entails.refl _) (recv_rs0 P c u g) (l.map (Pay.dma .rs0) ++ restB) k Q
  iapply h
  isplitr; · iexact Hctx
  isplitl [Hi]; · iexact Hi
  isplitl [Ho]; · iexact Ho
  isplitl [Hl]; · iexact Hl
  isplitl [HO]; · iexact HO
  iintro ⟨H1, H2, HO⟩
  iapply Hk
  isplitr [HO]
  · isplitl [H1] <;> iassumption
  iexact HO

abbrev needB (u : Fin 8) : sProp 𝕄 := iprop(giveA c u ∗ outP c fullShare 512 (r1 c u) u (P c) ∗ land4E (p2 c u) u ∗ idle c .rs1 u)
abbrev giveB (u : Fin 8) : sProp 𝕄 := iprop((done c (.rs0, false, u) ∗ done c (.rs0, true, u) ∗ land3E c u ∗ outE (p1 c u) 512 (r1 c u) u)
  ∗ outP c fullShare 256 (r2 c u) u (A1 P c u) ∗ sent c (.rs1, false, u) ∗ sent c (.rs1, true, u))

theorem step_B (u : Fin 8) (l : List (Fin 8)) (k : KProg F) (Q : PUnit → sProp 𝕄) :
    iprop(ctx P K ∗ needB P c u ∗ owesE c ((u :: l).map (Pay.dma .rs1) ++ restC) ∗ ((giveB P c u ∗ owesE c (l.map (Pay.dma .rs1) ++ restC)) -∗ WP c k Q))
      ⊢ WP c (stepB closed c u k) Q := by
  have hab : Above 2 ((u :: l).map (Pay.dma .rs1) ++ restC) := (above_map .rs1 (by decide) _).append (above_C.mono (by decide))
  unfold needB giveA land4E land4
  iintro ⟨#Hctx, ⟨⟨Hs, Hr⟩, Ho, ⟨%g4, Hl⟩, Hi⟩, HO, Hk⟩
  iapply (wait_cell P K c (.rs0, false, u) (by unfold Nk; rfl) _ (hab.mono (Nat.zero_le 2)))
  isplitr; · iexact Hctx
  isplitl [Hs]; · iexact Hs
  isplitl [HO]; · iexact HO
  iintro ⟨-, Hs, HO⟩
  iapply (wait_cell P K c (.rs0, true, u) (by unfold Nk; rfl) _ hab)
  isplitr; · iexact Hctx
  isplitl [Hr]; · iexact Hr
  isplitl [HO]; · iexact HO
  iintro ⟨Hp, Hr, HO⟩
  have hp : dmaPay P c (.rs0, true, u) ⊢ iprop((∃ g, ⌜(l3 u).view.read (Elt F) g = (sl 512 (at_ (r1 c u) u) (fits u (r1_le c u))).view.read (Elt F) (P (p1 c u))⌝ ∗ land3 c u g)
      ∗ outE (p1 c u) 512 (r1 c u) u) := BI.Entails.refl _
  ihave Hp := hp $$ Hp
  icases Hp with ⟨⟨%g, %hg, Hl3⟩, HoE⟩
  iapply (load_out c fullShare (P c))
  isplitl [Ho]; · iexact Ho
  iintro Ho
  iapply (load_l3 c g)
  isplitl [Hl3]; · iexact Hl3
  iintro Hl3
  iapply (load_out c fullShare (P c))
  isplitl [Ho]; · iexact Ho
  iintro Ho
  iapply (store_out c (P c) (A1 P c u) (sumB_read _ (P c) (P (p1 c u)) _ ((load3 u g).trans hg)))
  isplitl [Ho]; · iexact Ho
  iintro Ho
  ihave Ho := (out_quarter c c fullShare u (A1 P c u)).1 $$ Ho
  icases Ho with ⟨Ho1, Ho2⟩
  have h := send_land P K c .rs1 u (p2 c u) rfl (n := 256) (r := r2 (p2 c u) u) (h := fits u (r2_le _ u)) (dst := l4 u) (hsc := rfl)
    (hsrc := View.wordExact_bits rfl) (hdst := (View.wordExact_bits rfl).reshape _ _) (hsem := ⟨⟨rfl, Or.inl rfl⟩, trivial⟩)
    (by unfold Nk; rfl) (A1 P c u) g4 (BI.Entails.refl _) (recv_rs1 P c u g4) (l.map (Pay.dma .rs1) ++ restC) k Q
  iapply h
  isplitr; · iexact Hctx
  isplitl [Hi]; · iexact Hi
  isplitl [Ho2]; · iexact Ho2
  isplitl [Hl]; · iexact Hl
  isplitl [HO]; · iexact HO
  iintro ⟨H1, H2, HO⟩
  iapply Hk
  isplitr [HO]
  · isplitl [Hs Hr Hl3 HoE]
    · isplitl [Hs]; · iexact Hs
      isplitl [Hr]; · iexact Hr
      isplitl [Hl3]
      · unfold land3E; iexists g; iexact Hl3
      iexact HoE
    isplitl [Ho1]; · iexact Ho1
    isplitl [H1] <;> iassumption
  iexact HO

abbrev needC (u : Fin 8) : sProp 𝕄 := iprop(sent c (.rs1, false, u) ∗ sent c (.rs1, true, u) ∗ outP c fullShare 256 (r2 c u) u (A1 P c u)
  ∗ s3 (fun t => land5E (zp c t) t u) ∗ s3 (fun t => idle c (.zs t) u))
abbrev giveC (u : Fin 8) : sProp 𝕄 := iprop((done c (.rs1, false, u) ∗ done c (.rs1, true, u) ∗ land4E c u ∗ outE (p2 c u) 256 (r2 c u) u)
  ∗ outP c fullShare 64 (r3 c u) u (A2 P c u) ∗ s3 (fun t => sent c (.zs t, false, u)) ∗ s3 (fun t => sent c (.zs t, true, u)))

/-- One of the three pieces sent to the other squares. -/
theorem step_Ct (u : Fin 8) (t : Fin 3) (l : List Pay) (k : KProg F) (Q : PUnit → sProp 𝕄) :
    iprop(ctx P K ∗ outP c fullShare 64 (r3 (zp c t) u) u (A2 P c u) ∗ land5E (zp c t) t u ∗ idle c (.zs t) u ∗ owesE c (Pay.dma (.zs t) u :: l)
        ∗ ((sent c (.zs t, false, u) ∗ sent c (.zs t, true, u) ∗ owesE c l) -∗ WP c k Q))
      ⊢ WP c (stepCt closed c u t k) Q := by
  unfold land5E land5
  iintro ⟨#Hctx, Ho, ⟨%g, Hl⟩, Hi, HO, Hk⟩
  have h := send_land P K c (.zs t) u (zp c t) rfl (n := 64) (r := r3 (zp c t) u) (h := fits u (r3_le _ u)) (dst := l5 u t) (hsc := rfl)
    (hsrc := View.wordExact_bits rfl) (hdst := (View.wordExact_bits rfl).reshape _ _) (hsem := ⟨⟨rfl, Or.inl rfl⟩, trivial⟩)
    (by unfold Nk; rfl) (A2 P c u) g (BI.Entails.refl _) (recv_zs P c u t g) l k Q
  iapply h
  isplitr; · iexact Hctx
  isplitl [Hi]; · iexact Hi
  isplitl [Ho]; · iexact Ho
  isplitl [Hl]; · iexact Hl
  isplitl [HO]; · iexact HO
  iexact Hk

theorem step_C (u : Fin 8) (l : List (Fin 8)) (k : KProg F) (Q : PUnit → sProp 𝕄) :
    iprop(ctx P K ∗ needC P c u ∗ owesE c (zPays Kd.zs (u :: l) ++ restD) ∗ ((giveC P c u ∗ owesE c (zPays Kd.zs l ++ restD)) -∗ WP c k Q))
      ⊢ WP c (stepC closed c u k) Q := by
  have hab : Above 3 (zPays Kd.zs (u :: l) ++ restD) := (above_z Kd.zs (fun _ => Nat.lt_succ_self 3) _).append (above_D.mono (by decide))
  unfold needC s3
  iintro ⟨#Hctx, ⟨Hs, Hr, Ho, ⟨Hl0, Hl1, Hl2⟩, Hi0, Hi1, Hi2⟩, HO, Hk⟩
  iapply (wait_cell P K c (.rs1, false, u) (by unfold Nk; rfl) _ (hab.mono (Nat.zero_le 3)))
  isplitr; · iexact Hctx
  isplitl [Hs]; · iexact Hs
  isplitl [HO]; · iexact HO
  iintro ⟨-, Hs, HO⟩
  iapply (wait_cell P K c (.rs1, true, u) (by unfold Nk; rfl) _ hab)
  isplitr; · iexact Hctx
  isplitl [Hr]; · iexact Hr
  isplitl [HO]; · iexact HO
  iintro ⟨Hp, Hr, HO⟩
  have hp : dmaPay P c (.rs1, true, u) ⊢ iprop((∃ g, ⌜(l4 u).view.read (Elt F) g = (sl 256 (at_ (r2 c u) u) (fits u (r2_le c u))).view.read (Elt F) (A1 P (p2 c u) u)⌝ ∗ land4 c u g)
      ∗ outE (p2 c u) 256 (r2 c u) u) := BI.Entails.refl _
  ihave Hp := hp $$ Hp
  icases Hp with ⟨⟨%g, %hg, Hl4⟩, HoE⟩
  iapply (load_out c fullShare (A1 P c u))
  isplitl [Ho]; · iexact Ho
  iintro Ho
  iapply (load_l4 c g)
  isplitl [Hl4]; · iexact Hl4
  iintro Hl4
  iapply (load_out c fullShare (A1 P c u))
  isplitl [Ho]; · iexact Ho
  iintro Ho
  iapply (store_out c (A1 P c u) (A2 P c u) (sumC_read _ (A1 P c u) (A1 P (p2 c u) u) _ ((load4 u g).trans hg)))
  isplitl [Ho]; · iexact Ho
  iintro Ho
  ihave Ho := (out_sixteenth c c fullShare u (A2 P c u)).1 $$ Ho
  icases Ho with ⟨Ho, Ho0, Ho1, Ho2⟩
  have hz : owesE c (zPays Kd.zs (u :: l) ++ restD) ⊢ (owesE c (Pay.dma (.zs 0) u :: Pay.dma (.zs 1) u :: Pay.dma (.zs 2) u :: (zPays Kd.zs l ++ restD)) : sProp 𝕄) :=
    BI.Entails.refl _
  ihave HO := hz $$ HO
  iapply (step_Ct P K c u 0)
  isplitr; · iexact Hctx
  isplitl [Ho0]; · iexact Ho0
  isplitl [Hl0]; · iexact Hl0
  isplitl [Hi0]; · iexact Hi0
  isplitl [HO]; · iexact HO
  iintro ⟨H00, H01, HO⟩
  iapply (step_Ct P K c u 1)
  isplitr; · iexact Hctx
  isplitl [Ho1]; · iexact Ho1
  isplitl [Hl1]; · iexact Hl1
  isplitl [Hi1]; · iexact Hi1
  isplitl [HO]; · iexact HO
  iintro ⟨H10, H11, HO⟩
  iapply (step_Ct P K c u 2)
  isplitr; · iexact Hctx
  isplitl [Ho2]; · iexact Ho2
  isplitl [Hl2]; · iexact Hl2
  isplitl [Hi2]; · iexact Hi2
  isplitl [HO]; · iexact HO
  iintro ⟨H20, H21, HO⟩
  iapply Hk
  isplitr [HO]
  · unfold giveC s3
    isplitl [Hs Hr Hl4 HoE]
    · isplitl [Hs]; · iexact Hs
      isplitl [Hr]; · iexact Hr
      isplitl [Hl4]
      · unfold land4E; iexists g; iexact Hl4
      iexact HoE
    isplitl [Ho]; · iexact Ho
    isplitl [H00 H10 H20]
    · isplitl [H00]; · iexact H00
      isplitl [H10] <;> iassumption
    isplitl [H01]; · iexact H01
    isplitl [H11] <;> iassumption
  iexact HO

abbrev needD (u : Fin 8) : sProp 𝕄 := iprop(s3 (fun t => sent c (.zs t, false, u)) ∗ s3 (fun t => sent c (.zs t, true, u))
  ∗ outP c fullShare 64 (r3 c u) u (A2 P c u) ∗ s3 (fun t => idle c (.zb t) u))
abbrev giveD (u : Fin 8) : sProp 𝕄 := iprop((s3 (fun t => done c (.zs t, false, u)) ∗ s3 (fun t => done c (.zs t, true, u)) ∗ s3 (fun t => land5E c t u))
  ∗ outP c fullShare.right 64 (r3 c u) u (Fn P) ∗ s3 (fun t => sent c (.zb t, false, u)) ∗ s3 (fun t => sent c (.zb t, true, u)))

theorem wait_ZsR (u : Fin 8) (t : Fin 3) (l : List Pay) (hl : Above 4 l) (k : KProg F) (Q : PUnit → sProp 𝕄) :
    iprop(ctx P K ∗ sent c (.zs t, true, u) ∗ owesE c l ∗ ((((∃ g, ⌜(l5 u t).view.read (Elt F) g = (sl 64 (at_ (r3 c u) u) (fits u (r3_le c u))).view.read (Elt F) (A2 P (zf c t) u)⌝ ∗ land5 c u t g)
      ∗ outE (zf c t) 64 (r3 c u) u) ∗ done c (.zs t, true, u) ∗ owesE c l) -∗ WP c k Q))
      ⊢ WP c (waitZsR closed c u t k) Q :=
  wait_cell P K c (.zs t, true, u) (by unfold Nk; rfl) l hl k Q
theorem wait_ZsS (u : Fin 8) (t : Fin 3) (l : List Pay) (hl : Above 0 l) (k : KProg F) (Q : PUnit → sProp 𝕄) :
    iprop(ctx P K ∗ sent c (.zs t, false, u) ∗ owesE c l ∗ ((emp ∗ done c (.zs t, false, u) ∗ owesE c l) -∗ WP c k Q))
      ⊢ WP c (waitZsS closed c u t k) Q :=
  wait_cell P K c (.zs t, false, u) (by unfold Nk; rfl) l hl k Q
theorem wait_ZbR (u : Fin 8) (t : Fin 3) (l : List Pay) (hl : Above 5 l) (k : KProg F) (Q : PUnit → sProp 𝕄) :
    iprop(ctx P K ∗ sent c (.zb t, true, u) ∗ owesE c l ∗ ((outP c fullShare 64 (r3 (zf c t) u) u (Fn P) ∗ done c (.zb t, true, u) ∗ owesE c l) -∗ WP c k Q))
      ⊢ WP c (waitZbR closed c u t k) Q :=
  wait_cell P K c (.zb t, true, u) (by unfold Nk; rfl) l hl k Q
theorem wait_ZbS (u : Fin 8) (t : Fin 3) (l : List Pay) (hl : Above 0 l) (k : KProg F) (Q : PUnit → sProp 𝕄) :
    iprop(ctx P K ∗ sent c (.zb t, false, u) ∗ owesE c l ∗ ((outP c (zbShare t) 64 (r3 c u) u (Fn P) ∗ done c (.zb t, false, u) ∗ owesE c l) -∗ WP c k Q))
      ⊢ WP c (waitZbS closed c u t k) Q :=
  wait_cell P K c (.zb t, false, u) (by unfold Nk; rfl) l hl k Q
theorem send_Zb (u : Fin 8) (t : Fin 3) (l : List Pay) (k : KProg F) (Q : PUnit → sProp 𝕄) :
    iprop(ctx P K ∗ idle c (.zb t) u ∗ outP c (zbShare t) 64 (r3 c u) u (Fn P) ∗ outE (zp c t) 64 (r3 c u) u ∗ owesE c (Pay.dma (.zb t) u :: l)
        ∗ ((sent c (.zb t, false, u) ∗ sent c (.zb t, true, u) ∗ owesE c l) -∗ WP c k Q))
      ⊢ WP c (sendZb closed c u t k) Q :=
  send_keep P K c (.zb t) u (zp c t) rfl (n := 64) (r := r3 c u) (h := fits u (r3_le c u)) (hsc := rfl)
    (hsrc := View.wordExact_bits rfl) (hdst := View.wordExact_bits rfl) (hsem := ⟨⟨rfl, Or.inl rfl⟩, trivial⟩)
    (by unfold Nk; rfl) (zbShare t) (BI.Entails.refl _) (recv_zb P c u t) l k Q

/-- The activation of the third sum is the finished rows. -/
theorem out_finished (u : Fin 8) : outP c fullShare 64 (r3 c u) u (Y P c u) ⊢ iprop((outP c (zbShare 0) 64 (r3 c u) u (Fn P)
    ∗ outP c (zbShare 1) 64 (r3 c u) u (Fn P) ∗ outP c (zbShare 2) 64 (r3 c u) u (Fn P)) ∗ outP c fullShare.right 64 (r3 c u) u (Fn P)) := by
  rw [out_congr c fullShare u (Y P c u) (Fn P) (Fn_blk P c u)]
  iintro H
  ihave H := (out_share c fullShare u (Fn P)).1 $$ H
  icases H with ⟨H, Hr⟩
  ihave H := (out_share c fullShare.left u (Fn P)).1 $$ H
  icases H with ⟨H0, H⟩
  ihave H := (out_share c fullShare.left.right u (Fn P)).1 $$ H
  icases H with ⟨H1, H2⟩
  isplitr [Hr]
  · isplitl [H0]; · iexact H0
    isplitl [H1]; · iexact H1
    iexact H2
  iexact Hr
theorem out_rejoin (u : Fin 8) : iprop(outP c (zbShare 0) 64 (r3 c u) u (Fn P) ∗ outP c (zbShare 1) 64 (r3 c u) u (Fn P) ∗ outP c (zbShare 2) 64 (r3 c u) u (Fn P))
    ⊢ outP c fullShare.left 64 (r3 c u) u (Fn P) := by
  iintro ⟨H0, H1, H2⟩
  iapply (out_share c fullShare.left u (Fn P)).2
  isplitl [H0]; · iexact H0
  iapply (out_share c fullShare.left.right u (Fn P)).2
  isplitl [H1]; · iexact H1
  iexact H2

theorem step_D (u : Fin 8) (l : List (Fin 8)) (k : KProg F) (Q : PUnit → sProp 𝕄) :
    iprop(ctx P K ∗ needD P c u ∗ owesE c (zPays Kd.zb (u :: l) ++ restE) ∗ ((giveD P c u ∗ owesE c (zPays Kd.zb l ++ restE)) -∗ WP c k Q))
      ⊢ WP c (stepD closed c u k) Q := by
  have hab : Above 4 (zPays Kd.zb (u :: l) ++ restE) := (above_z Kd.zb (fun _ => Nat.lt_succ_self 4) _).append (above_E.mono (by decide))
  have hab' : Above 0 (zPays Kd.zb l ++ restE) := (above_z Kd.zb (fun _ => Nat.succ_pos 4) _).append (above_E.mono (by decide))
  unfold needD s3
  iintro ⟨#Hctx, ⟨⟨Hs0, Hs1, Hs2⟩, ⟨Hr0, Hr1, Hr2⟩, Ho, Hi0, Hi1, Hi2⟩, HO, Hk⟩
  iapply (wait_ZsR P K c u 0 _ hab)
  isplitr; · iexact Hctx
  isplitl [Hr0]; · iexact Hr0
  isplitl [HO]; · iexact HO
  iintro ⟨⟨⟨%g0, %hg0, Hl0⟩, HE0⟩, Hr0, HO⟩
  iapply (wait_ZsR P K c u 1 _ hab)
  isplitr; · iexact Hctx
  isplitl [Hr1]; · iexact Hr1
  isplitl [HO]; · iexact HO
  iintro ⟨⟨⟨%g1, %hg1, Hl1⟩, HE1⟩, Hr1, HO⟩
  iapply (wait_ZsR P K c u 2 _ hab)
  isplitr; · iexact Hctx
  isplitl [Hr2]; · iexact Hr2
  isplitl [HO]; · iexact HO
  iintro ⟨⟨⟨%g2, %hg2, Hl2⟩, HE2⟩, Hr2, HO⟩
  iapply (load_out c fullShare (A2 P c u))
  isplitl [Ho]; · iexact Ho
  iintro Ho
  iapply (load_l5 c g0)
  isplitl [Hl0]; · iexact Hl0
  iintro Hl0
  iapply (load_l5 c g1)
  isplitl [Hl1]; · iexact Hl1
  iintro Hl1
  iapply (load_l5 c g2)
  isplitl [Hl2]; · iexact Hl2
  iintro Hl2
  iapply (load_out c fullShare (A2 P c u))
  isplitl [Ho]; · iexact Ho
  iintro Ho
  have hsum := sumD_read (fits u (r3_le c u)) (A2 P c u) (A2 P (zf c 0) u) (A2 P (zf c 1) u) (A2 P (zf c 2) u) _ _ _
    ((load5 u 0 g0).trans hg0) ((load5 u 1 g1).trans hg1) ((load5 u 2 g2).trans hg2)
  iapply (store_out c (A2 P c u) (Y P c u) ((congrArg silu hsum).trans (silu_read _ (A3 P c u))))
  isplitl [Ho]; · iexact Ho
  iintro Ho
  ihave Ho := out_finished P c u $$ Ho
  icases Ho with ⟨⟨Ho0, Ho1, Ho2⟩, Ho⟩
  have hz : owesE c (zPays Kd.zb (u :: l) ++ restE) ⊢ (owesE c (Pay.dma (.zb 0) u :: Pay.dma (.zb 1) u :: Pay.dma (.zb 2) u :: (zPays Kd.zb l ++ restE)) : sProp 𝕄) :=
    BI.Entails.refl _
  ihave HO := hz $$ HO
  iapply (send_Zb P K c u 0)
  isplitr; · iexact Hctx
  isplitl [Hi0]; · iexact Hi0
  isplitl [Ho0]; · iexact Ho0
  isplitl [HE2]; · iexact HE2
  isplitl [HO]; · iexact HO
  iintro ⟨H00, H01, HO⟩
  iapply (send_Zb P K c u 1)
  isplitr; · iexact Hctx
  isplitl [Hi1]; · iexact Hi1
  isplitl [Ho1]; · iexact Ho1
  isplitl [HE1]; · iexact HE1
  isplitl [HO]; · iexact HO
  iintro ⟨H10, H11, HO⟩
  iapply (send_Zb P K c u 2)
  isplitr; · iexact Hctx
  isplitl [Hi2]; · iexact Hi2
  isplitl [Ho2]; · iexact Ho2
  isplitl [HE0]; · iexact HE0
  isplitl [HO]; · iexact HO
  iintro ⟨H20, H21, HO⟩
  iapply (wait_ZsS P K c u 0 _ hab')
  isplitr; · iexact Hctx
  isplitl [Hs0]; · iexact Hs0
  isplitl [HO]; · iexact HO
  iintro ⟨-, Hs0, HO⟩
  iapply (wait_ZsS P K c u 1 _ hab')
  isplitr; · iexact Hctx
  isplitl [Hs1]; · iexact Hs1
  isplitl [HO]; · iexact HO
  iintro ⟨-, Hs1, HO⟩
  iapply (wait_ZsS P K c u 2 _ hab')
  isplitr; · iexact Hctx
  isplitl [Hs2]; · iexact Hs2
  isplitl [HO]; · iexact HO
  iintro ⟨-, Hs2, HO⟩
  iapply Hk
  isplitr [HO]
  · unfold giveD s3 land5E
    isplitl [Hs0 Hs1 Hs2 Hr0 Hr1 Hr2 Hl0 Hl1 Hl2]
    · isplitl [Hs0 Hs1 Hs2]
      · isplitl [Hs0]; · iexact Hs0
        isplitl [Hs1] <;> iassumption
      isplitl [Hr0 Hr1 Hr2]
      · isplitl [Hr0]; · iexact Hr0
        isplitl [Hr1] <;> iassumption
      isplitl [Hl0]; · iexists g0; iexact Hl0
      isplitl [Hl1]; · iexists g1; iexact Hl1
      iexists g2; iexact Hl2
    isplitl [Ho]; · iexact Ho
    isplitl [H00 H10 H20]
    · isplitl [H00]; · iexact H00
      isplitl [H10] <;> iassumption
    isplitl [H01]; · iexact H01
    isplitl [H11] <;> iassumption
  iexact HO

abbrev needE (u : Fin 8) : sProp 𝕄 := iprop(s3 (fun t => sent c (.zb t, false, u)) ∗ s3 (fun t => sent c (.zb t, true, u))
  ∗ outP c fullShare.right 64 (r3 c u) u (Fn P) ∗ outE (p2 c u) 256 (r2 c u) u ∗ idle c .ag0 u)
abbrev giveE (u : Fin 8) : sProp 𝕄 := iprop((s3 (fun t => done c (.zb t, false, u)) ∗ s3 (fun t => done c (.zb t, true, u)))
  ∗ outP c fullShare.left 256 (r2 c u) u (Fn P) ∗ sent c (.ag0, false, u) ∗ sent c (.ag0, true, u))

theorem step_E (u : Fin 8) (l : List (Fin 8)) (k : KProg F) (Q : PUnit → sProp 𝕄) :
    iprop(ctx P K ∗ needE P c u ∗ owesE c ((u :: l).map (Pay.dma .ag0) ++ restF) ∗ ((giveE P c u ∗ owesE c (l.map (Pay.dma .ag0) ++ restF)) -∗ WP c k Q))
      ⊢ WP c (stepE closed c u k) Q := by
  have hab : Above 5 ((u :: l).map (Pay.dma .ag0) ++ restF) := (above_map .ag0 (by decide) _).append (above_F.mono (by decide))
  have hab' : Above 0 (l.map (Pay.dma .ag0) ++ restF) := (above_map .ag0 (by decide) _).append (above_F.mono (by decide))
  unfold needE s3
  iintro ⟨#Hctx, ⟨⟨Hs0, Hs1, Hs2⟩, ⟨Hr0, Hr1, Hr2⟩, Ho, HE, Hi⟩, HO, Hk⟩
  iapply (wait_ZbR P K c u 0 _ hab)
  isplitr; · iexact Hctx
  isplitl [Hr0]; · iexact Hr0
  isplitl [HO]; · iexact HO
  iintro ⟨Ho0, Hr0, HO⟩
  iapply (wait_ZbR P K c u 1 _ hab)
  isplitr; · iexact Hctx
  isplitl [Hr1]; · iexact Hr1
  isplitl [HO]; · iexact HO
  iintro ⟨Ho1, Hr1, HO⟩
  iapply (wait_ZbR P K c u 2 _ hab)
  isplitr; · iexact Hctx
  isplitl [Hr2]; · iexact Hr2
  isplitl [HO]; · iexact HO
  iintro ⟨Ho2, Hr2, HO⟩
  ihave Ho0 := (out_share c fullShare u (Fn P)).1 $$ Ho0
  icases Ho0 with ⟨Ho0, Ho0'⟩
  ihave Ho1 := (out_share c fullShare u (Fn P)).1 $$ Ho1
  icases Ho1 with ⟨Ho1, Ho1'⟩
  ihave Ho2 := (out_share c fullShare u (Fn P)).1 $$ Ho2
  icases Ho2 with ⟨Ho2, Ho2'⟩
  have h := send_keep P K c .ag0 u (p2 c u) rfl (n := 256) (r := r2 c u) (h := fits u (r2_le c u)) (hsc := rfl)
    (hsrc := View.wordExact_bits rfl) (hdst := View.wordExact_bits rfl) (hsem := ⟨⟨rfl, Or.inl rfl⟩, trivial⟩)
    (by unfold Nk; rfl) fullShare.right (BI.Entails.refl _) (recv_ag0 P c u) (l.map (Pay.dma .ag0) ++ restF)
    (([0, 1, 2] : List (Fin 3)).foldr (waitZbS closed c u) k) Q
  iapply h
  isplitr; · iexact Hctx
  isplitl [Hi]; · iexact Hi
  isplitl [Ho Ho0' Ho1' Ho2']
  · iapply (out_sixteenth c c fullShare.right u (Fn P)).2
    isplitl [Ho]; · iexact Ho
    isplitl [Ho2']; · iexact Ho2'
    isplitl [Ho1']; · iexact Ho1'
    iexact Ho0'
  isplitl [HE]; · iexact HE
  isplitl [HO]; · iexact HO
  iintro ⟨H1, H2, HO⟩
  iapply (wait_ZbS P K c u 0 _ hab')
  isplitr; · iexact Hctx
  isplitl [Hs0]; · iexact Hs0
  isplitl [HO]; · iexact HO
  iintro ⟨Hq0, Hs0, HO⟩
  iapply (wait_ZbS P K c u 1 _ hab')
  isplitr; · iexact Hctx
  isplitl [Hs1]; · iexact Hs1
  isplitl [HO]; · iexact HO
  iintro ⟨Hq1, Hs1, HO⟩
  iapply (wait_ZbS P K c u 2 _ hab')
  isplitr; · iexact Hctx
  isplitl [Hs2]; · iexact Hs2
  isplitl [HO]; · iexact HO
  iintro ⟨Hq2, Hs2, HO⟩
  iapply Hk
  isplitr [HO]
  · unfold giveE s3
    isplitl [Hs0 Hs1 Hs2 Hr0 Hr1 Hr2]
    · isplitl [Hs0 Hs1 Hs2]
      · isplitl [Hs0]; · iexact Hs0
        isplitl [Hs1] <;> iassumption
      isplitl [Hr0]; · iexact Hr0
      isplitl [Hr1] <;> iassumption
    isplitl [Hq0 Hq1 Hq2 Ho0 Ho1 Ho2]
    · iapply (out_sixteenth c c fullShare.left u (Fn P)).2
      isplitl [Hq0 Hq1 Hq2]
      · iapply (out_rejoin P c u)
        isplitl [Hq0]; · iexact Hq0
        isplitl [Hq1] <;> iassumption
      isplitl [Ho2]; · iexact Ho2
      isplitl [Ho1]; · iexact Ho1
      iexact Ho0
    isplitl [H1] <;> iassumption
  iexact HO

abbrev needF (u : Fin 8) : sProp 𝕄 := iprop((sent c (.ag0, false, u) ∗ sent c (.ag0, true, u)) ∗ outP c fullShare.left 256 (r2 c u) u (Fn P)
  ∗ outE (p1 c u) 512 (r1 c u) u ∗ idle c .ag1 u)
abbrev giveF (u : Fin 8) : sProp 𝕄 := iprop((done c (.ag0, false, u) ∗ done c (.ag0, true, u)) ∗ sent c (.ag1, false, u) ∗ sent c (.ag1, true, u))

theorem step_F (u : Fin 8) (l : List (Fin 8)) (k : KProg F) (Q : PUnit → sProp 𝕄) :
    iprop(ctx P K ∗ needF P c u ∗ owesE c ((u :: l).map (Pay.dma .ag1) ++ restG) ∗ ((giveF c u ∗ owesE c (l.map (Pay.dma .ag1) ++ restG)) -∗ WP c k Q))
      ⊢ WP c (stepF closed c u k) Q := by
  have hab : Above 6 ((u :: l).map (Pay.dma .ag1) ++ restG) := (above_map .ag1 (by decide) _).append (above_G 6)
  unfold needF
  iintro ⟨#Hctx, ⟨⟨Hs, Hr⟩, Ho, HE, Hi⟩, HO, Hk⟩
  iapply (wait_cell P K c (.ag0, false, u) (by unfold Nk; rfl) _ (hab.mono (Nat.zero_le 6)))
  isplitr; · iexact Hctx
  isplitl [Hs]; · iexact Hs
  isplitl [HO]; · iexact HO
  iintro ⟨Hq, Hs, HO⟩
  have hq : dmaPay P c (.ag0, false, u) ⊢ outP c fullShare.right 256 (r2 c u) u (Fn P) := BI.Entails.refl _
  ihave Hq := hq $$ Hq
  iapply (wait_cell P K c (.ag0, true, u) (by unfold Nk; rfl) _ hab)
  isplitr; · iexact Hctx
  isplitl [Hr]; · iexact Hr
  isplitl [HO]; · iexact HO
  iintro ⟨Hp, Hr, HO⟩
  have hp : dmaPay P c (.ag0, true, u) ⊢ outP c fullShare 256 (r2 (p2 c u) u) u (Fn P) := BI.Entails.refl _
  ihave Hp := hp $$ Hp
  have h := send_keep P K c .ag1 u (p1 c u) rfl (n := 512) (r := r1 c u) (h := fits u (r1_le c u)) (hsc := rfl)
    (hsrc := View.wordExact_bits rfl) (hdst := View.wordExact_bits rfl) (hsem := ⟨⟨rfl, Or.inl rfl⟩, trivial⟩)
    (by unfold Nk; rfl) fullShare (BI.Entails.refl _) (recv_ag1 P c u) (l.map (Pay.dma .ag1) ++ restG) k Q
  iapply h
  isplitr; · iexact Hctx
  isplitl [Hi]; · iexact Hi
  isplitl [Ho Hq Hp]
  · iapply (out_quarter c c fullShare u (Fn P)).2
    isplitl [Ho Hq]
    · iapply (out_share c fullShare u (Fn P)).2
      isplitl [Ho] <;> iassumption
    iexact Hp
  isplitl [HE]; · iexact HE
  isplitl [HO]; · iexact HO
  iintro ⟨H1, H2, HO⟩
  iapply Hk
  isplitr [HO]
  · isplitl [Hs Hr]
    · isplitl [Hs] <;> iassumption
    isplitl [H1] <;> iassumption
  iexact HO

abbrev needG (u : Fin 8) : sProp 𝕄 := iprop(sent c (.ag1, false, u) ∗ sent c (.ag1, true, u))
abbrev giveG (u : Fin 8) : sProp 𝕄 := iprop((done c (.ag1, false, u) ∗ done c (.ag1, true, u)) ∗ outP c fullShare 1024 0 u (Fn P))

theorem step_G (u : Fin 8) (l : List (Fin 8)) (k : KProg F) (Q : PUnit → sProp 𝕄) :
    iprop(ctx P K ∗ needG c u ∗ owesE c restG ∗ ((giveG P c u ∗ owesE c restG) -∗ WP c k Q))
      ⊢ WP c (stepG closed c u k) Q := by
  unfold needG
  iintro ⟨#Hctx, ⟨Hs, Hr⟩, HO, Hk⟩
  iapply (wait_cell P K c (.ag1, false, u) (by unfold Nk; rfl) _ (above_G _))
  isplitr; · iexact Hctx
  isplitl [Hs]; · iexact Hs
  isplitl [HO]; · iexact HO
  iintro ⟨Hq, Hs, HO⟩
  have hq : dmaPay P c (.ag1, false, u) ⊢ outP c fullShare 512 (r1 c u) u (Fn P) := BI.Entails.refl _
  ihave Hq := hq $$ Hq
  iapply (wait_cell P K c (.ag1, true, u) (by unfold Nk; rfl) _ (above_G _))
  isplitr; · iexact Hctx
  isplitl [Hr]; · iexact Hr
  isplitl [HO]; · iexact HO
  iintro ⟨Hp, Hr, HO⟩
  have hp : dmaPay P c (.ag1, true, u) ⊢ outP c fullShare 512 (r1 (p1 c u) u) u (Fn P) := BI.Entails.refl _
  ihave Hp := hp $$ Hp
  iapply Hk
  isplitr [HO]
  · isplitl [Hs Hr]
    · isplitl [Hs] <;> iassumption
    iapply (out_half c c fullShare u (Fn P)).2
    isplitl [Hq] <;> iassumption
  iexact HO

end Phases

end Cert.KernelIdeal.Own

end
-- ==== Proof.Body.lean ====
/-
The body run on a device: the entry handshake, the partial product, and the seven phases, one after another over all
the units.
-/
module

public import proofs.«01_k».proof.Proof.Steps
public import Idealize.ShloMosaic.Lib.Ring

@[expose] public section

set_option maxRecDepth 8000

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)

variable {F : FTy → Type} [FloatOps F]

local notation "𝕄" => MT nD τ sig Unit (Elt F) ℕ UU ℕ

/-! ## The landing buffers, piece by piece -/

theorem set3 (u : Fin 8) : (l3 u).view.set = (rect3 u).set :=
  (View.set_reshape (b3.view.slice (rect3 u)) _).trans (View.set_slice_whole cc0_scratch0 (rect3 u))
theorem set4 (u : Fin 8) : (l4 u).view.set = (rect4 u).set :=
  (View.set_reshape (b4.view.slice (rect4 u)) _).trans (View.set_slice_whole cc0_scratch1 (rect4 u))
theorem set5 (u : Fin 8) (t : Fin 3) : (l5 u t).view.set = (rect5 u t).set :=
  (View.set_reshape (b5.view.slice (rect5 u t)) _).trans (View.set_slice_whole cc0_scratch2 (rect5 u t))

theorem disj3 (u u' : Fin 8) (h : u ≠ u') : Disjoint (l3 u).view.set (l3 u').view.set := by
  rw [set3, set3]
  refine Finset.disjoint_left.mpr fun i hi hi' => h (Fin.ext ?_)
  have h1 := Rect.mem_set_unit.mp hi 0
  have h2 := Rect.mem_set_unit.mp hi' 0
  have e1 : u.val ≤ (i 0).val ∧ (i 0).val < u.val + 1 := h1
  have e2 : u'.val ≤ (i 0).val ∧ (i 0).val < u'.val + 1 := h2
  omega
theorem disj4 (u u' : Fin 8) (h : u ≠ u') : Disjoint (l4 u).view.set (l4 u').view.set := by
  rw [set4, set4]
  refine Finset.disjoint_left.mpr fun i hi hi' => h (Fin.ext ?_)
  have h1 := Rect.mem_set_unit.mp hi 0
  have h2 := Rect.mem_set_unit.mp hi' 0
  have e1 : u.val ≤ (i 0).val ∧ (i 0).val < u.val + 1 := h1
  have e2 : u'.val ≤ (i 0).val ∧ (i 0).val < u'.val + 1 := h2
  omega
theorem disj5 (x x' : Fin 3 × Fin 8) (h : x ≠ x') : Disjoint (l5 x.2 x.1).view.set (l5 x'.2 x'.1).view.set := by
  rw [set5, set5]
  refine Finset.disjoint_left.mpr fun i hi hi' => h (Prod.ext (Fin.ext ?_) (Fin.ext ?_))
  · have e1 : x.1.val ≤ (i 1).val ∧ (i 1).val < x.1.val + 1 := Rect.mem_set_unit.mp hi 1
    have e2 : x'.1.val ≤ (i 1).val ∧ (i 1).val < x'.1.val + 1 := Rect.mem_set_unit.mp hi' 1
    omega
  · have e1 : x.2.val ≤ (i 0).val ∧ (i 0).val < x.2.val + 1 := Rect.mem_set_unit.mp hi 0
    have e2 : x'.2.val ≤ (i 0).val ∧ (i 0).val < x'.2.val + 1 := Rect.mem_set_unit.mp hi' 0
    omega

theorem cover3 : @Finset.biUnion (Fin 8) S8x512x128.Idx _ Finset.univ (fun u => (l3 u).view.set) = Finset.univ := by
  ext i
  simp only [Finset.mem_biUnion, Finset.mem_univ, true_and, iff_true]
  obtain ⟨u, hu⟩ : ∃ u : Fin 8, u.val = (i 0).val := ⟨⟨(i 0).val, (i 0).isLt⟩, rfl⟩
  refine ⟨u, ?_⟩
  rw [set3]
  refine Rect.mem_set_unit.mpr fun a => ?_
  match a with
  | 0 => exact ⟨hu.le, by show (i 0).val < u.val + 1; omega⟩
  | 1 => exact ⟨Nat.zero_le _, by have h : (i 1).val < 512 := (i 1).isLt; show (i 1).val < 0 + 512; omega⟩
  | 2 => exact ⟨Nat.zero_le _, by have h : (i 2).val < 128 := (i 2).isLt; show (i 2).val < 0 + 128; omega⟩
theorem cover4 : @Finset.biUnion (Fin 8) S8x256x128.Idx _ Finset.univ (fun u => (l4 u).view.set) = Finset.univ := by
  ext i
  simp only [Finset.mem_biUnion, Finset.mem_univ, true_and, iff_true]
  obtain ⟨u, hu⟩ : ∃ u : Fin 8, u.val = (i 0).val := ⟨⟨(i 0).val, (i 0).isLt⟩, rfl⟩
  refine ⟨u, ?_⟩
  rw [set4]
  refine Rect.mem_set_unit.mpr fun a => ?_
  match a with
  | 0 => exact ⟨hu.le, by show (i 0).val < u.val + 1; omega⟩
  | 1 => exact ⟨Nat.zero_le _, by have h : (i 1).val < 256 := (i 1).isLt; show (i 1).val < 0 + 256; omega⟩
  | 2 => exact ⟨Nat.zero_le _, by have h : (i 2).val < 128 := (i 2).isLt; show (i 2).val < 0 + 128; omega⟩
theorem cover5 : @Finset.biUnion (Fin 3 × Fin 8) S8x3x64x128.Idx _ Finset.univ (fun x => (l5 x.2 x.1).view.set) = Finset.univ := by
  ext i
  simp only [Finset.mem_biUnion, Finset.mem_univ, true_and, iff_true]
  obtain ⟨u, hu⟩ : ∃ u : Fin 8, u.val = (i 0).val := ⟨⟨(i 0).val, (i 0).isLt⟩, rfl⟩
  obtain ⟨t, ht⟩ : ∃ t : Fin 3, t.val = (i 1).val := ⟨⟨(i 1).val, (i 1).isLt⟩, rfl⟩
  refine ⟨(t, u), ?_⟩
  rw [set5]
  refine Rect.mem_set_unit.mpr fun a => ?_
  match a with
  | 0 => exact ⟨hu.le, by show (i 0).val < u.val + 1; omega⟩
  | 1 => exact ⟨ht.le, by show (i 1).val < t.val + 1; omega⟩
  | 2 => exact ⟨Nat.zero_le _, by have h : (i 2).val < 64 := (i 2).isLt; show (i 2).val < 0 + 64; omega⟩
  | 3 => exact ⟨Nat.zero_le _, by have h : (i 3).val < 128 := (i 3).isLt; show (i 3).val < 0 + 128; omega⟩

/-- A whole buffer at some contents. -/
def bufE (c : Dev nD) (b : Ref sig .tc) : sProp 𝕄 := iprop(∃ f : Buf (Elt F) ((c : Thread nD τ).loc b), ((c : Thread nD τ).loc b) ↦{fullShare} f)

section Land
variable (c : Dev nD)
omit [FloatOps F]

/-- A buffer is held whole or piece by piece. -/
theorem bufE_split (b : Ref sig .tc) {B : Type} [Fintype B] [DecidableEq B] (I : B → Finset (Idx ((c : Thread nD τ).loc b)))
    (hd : ∀ b b', b ≠ b' → Disjoint (I b) (I b')) (hc : Finset.univ.biUnion I = Finset.univ) :
    (bufE c b : sProp 𝕄) ⊣⊢ iprop((∃ _ : Buf (Elt F) ((c : Thread nD τ).loc b), emp) ∗ bigSep Finset.univ fun x => iprop(∃ f : Buf (Elt F) ((c : Thread nD τ).loc b), ((c : Thread nD τ).loc b) ↦[I x]{fullShare} f)) := by
  unfold bufE
  constructor
  · iintro ⟨%f, H⟩
    isplitr
    · iexists f; iempintro
    have h := pointsTo_blocks (Ix := Unit) (Name := ℕ) (U := UU) (Lvl := ℕ) (Val := Elt F) (ℓ := (c : Thread nD τ).loc b) (q := fullShare) I hd hc f
    have h2 : (bigSep Finset.univ fun x : B => ((c : Thread nD τ).loc b ↦[I x]{fullShare} f : sProp 𝕄)) ⊢ bigSep Finset.univ fun x => iprop(∃ f : Buf (Elt F) ((c : Thread nD τ).loc b), ((c : Thread nD τ).loc b) ↦[I x]{fullShare} f) :=
      bigSep_mono fun x _ => by
        show ((c : Thread nD τ).loc b ↦[I x]{fullShare} f : sProp 𝕄) ⊢ iprop(∃ f : Buf (Elt F) ((c : Thread nD τ).loc b), ((c : Thread nD τ).loc b) ↦[I x]{fullShare} f)
        iintro H; iexists f; iexact H
    iapply h2
    iapply (Entails.of_eq h)
    iexact H
  · iintro ⟨⟨%f, -⟩, H⟩
    iapply (pointsTo_blocks_join_exists (Ix := Unit) (Name := ℕ) (U := UU) (Lvl := ℕ) (Val := Elt F) (ℓ := (c : Thread nD τ).loc b) (q := fullShare) I hd hc f)
    iexact H

/-- That a buffer has contents. -/
def some_ (b : Ref sig .tc) : sProp 𝕄 := iprop(∃ _ : Buf (Elt F) ((c : Thread nD τ).loc b), emp)

theorem land3_split : (bufE c cc0_scratch0 : sProp 𝕄) ⊣⊢ iprop(some_ c cc0_scratch0 ∗ sepL us (land3E c)) :=
  have h := bufE_split (F := F) c cc0_scratch0 (fun u => (l3 u).view.set) disj3 cover3
  ⟨h.1.trans (sep_mono_right (sepL_of_us _)), (sep_mono_right (us_of_sepL _)).trans h.2⟩
theorem land4_split : (bufE c cc0_scratch1 : sProp 𝕄) ⊣⊢ iprop(some_ c cc0_scratch1 ∗ sepL us (land4E c)) :=
  have h := bufE_split (F := F) c cc0_scratch1 (fun u => (l4 u).view.set) disj4 cover4
  ⟨h.1.trans (sep_mono_right (sepL_of_us _)), (sep_mono_right (us_of_sepL _)).trans h.2⟩

theorem fin3_eq (Φ : Fin 3 → sProp 𝕄) : bigSep Finset.univ Φ = iprop(Φ 0 ∗ Φ 1 ∗ Φ 2) :=
  bigSep_univ_eq_bigSepL [0, 1, 2] (by decide) (by decide) Φ
theorem land5_eq : (bigSep Finset.univ fun x : Fin 3 × Fin 8 => land5E c x.1 x.2 : sProp 𝕄)
    ⊣⊢ iprop(sepL us (land5E c 0) ∗ sepL us (land5E c 1) ∗ sepL us (land5E c 2)) := by
  rw [bigSep_univ_prod, fin3_eq]
  exact ⟨BIClass.sep_mono (sepL_of_us _) (BIClass.sep_mono (sepL_of_us _) (sepL_of_us _)),
    BIClass.sep_mono (us_of_sepL _) (BIClass.sep_mono (us_of_sepL _) (us_of_sepL _))⟩
theorem land5_split : (bufE c cc0_scratch2 : sProp 𝕄) ⊣⊢ iprop(some_ c cc0_scratch2 ∗ sepL us (land5E c 0) ∗ sepL us (land5E c 1) ∗ sepL us (land5E c 2)) :=
  have h := bufE_split (F := F) c cc0_scratch2 (fun x : Fin 3 × Fin 8 => (l5 x.2 x.1).view.set) disj5 cover5
  ⟨h.1.trans (sep_mono_right (land5_eq c).1), (sep_mono_right (land5_eq c).2).trans h.2⟩

/-! ## The handshake's payloads -/

/-- A device's own landing buffers, sorted by the neighbour that writes into them. -/
theorem bar_give : iprop(sepL us (land3E c) ∗ sepL us (land4E c)) ⊢ (iprop(barPay (xp c) 0 ∗ barPay (yp c) 1) : sProp 𝕄) := by
  unfold barPay
  dsimp only
  rw [xp_xp, yp_yp]
  refine (sepL_join us _ _).trans ((sepL_mono us fun u => ?_).trans (sepL_sep us _ _))
  by_cases h : u.val < 4
  · rw [if_pos h, if_pos h]
  · rw [if_neg h, if_neg h]; exact sep_comm.1
/-- The neighbours' landing buffers a device writes into. -/
theorem bar_take : (iprop(barPay c 0 ∗ barPay c 1) : sProp 𝕄) ⊢ sepL us fun u => iprop(land3E (p1 c u) u ∗ land4E (p2 c u) u) := by
  unfold barPay
  dsimp only
  refine (sepL_join us _ _).trans (sepL_mono us fun u => ?_)
  unfold p1 p2
  by_cases h : u.val < 4
  · rw [if_pos h, if_pos h, if_pos h, if_pos h]
  · rw [if_neg h, if_neg h, if_neg h, if_neg h]; exact sep_comm.1
theorem bar_give5 (t : Fin 3) (j : Fin 5) (hj : j.val = t.val + 2) : (sepL us (land5E c (Fin.rev t)) : sProp 𝕄) ⊢ barPay (nbr c j) (dual j) := by
  match t, j, hj with
  | 0, 2, _ =>
    show _ ⊢ sepL us (land5E (zp (zp c 0) 2) 2)
    rw [show zp (zp c 0) 2 = c from zf_zp c 0]
    exact BI.Entails.refl _
  | 1, 3, _ =>
    show _ ⊢ sepL us (land5E (zp (zp c 1) 1) 1)
    rw [show zp (zp c 1) 1 = c from zf_zp c 1]
    exact BI.Entails.refl _
  | 2, 4, _ =>
    show _ ⊢ sepL us (land5E (zp (zp c 2) 0) 0)
    rw [show zp (zp c 2) 0 = c from zf_zp c 2]
    exact BI.Entails.refl _

end Land

/-! ## All kinds, unit by unit -/

/-- One conjunct per kind. -/
def perU (Φ : Kd → sProp 𝕄) : sProp 𝕄 :=
  iprop(Φ .rs0 ∗ Φ .rs1 ∗ s3 (fun t => Φ (.zs t)) ∗ s3 (fun t => Φ (.zb t)) ∗ Φ .ag0 ∗ Φ .ag1)

section Kinds
omit [FloatOps F]

theorem kd_eq (Φ : Kd → sProp 𝕄) : bigSep Finset.univ Φ ⊣⊢ perU Φ := by
  have h : bigSep Finset.univ Φ = iprop(Φ .rs0 ∗ Φ .rs1 ∗ Φ (.zs 0) ∗ Φ (.zs 1) ∗ Φ (.zs 2) ∗ Φ (.zb 0) ∗ Φ (.zb 1) ∗ Φ (.zb 2) ∗ Φ .ag0 ∗ Φ .ag1) :=
    bigSep_univ_eq_bigSepL [Kd.rs0, Kd.rs1, Kd.zs 0, Kd.zs 1, Kd.zs 2, Kd.zb 0, Kd.zb 1, Kd.zb 2, Kd.ag0, Kd.ag1] (by decide) (by decide) Φ
  rw [h]
  unfold perU s3
  constructor
  · iintro ⟨H1, H2, H3, H4, H5, H6, H7, H8, H9, H10⟩
    isplitl [H1]; · iexact H1
    isplitl [H2]; · iexact H2
    isplitl [H3 H4 H5]
    · isplitl [H3]; · iexact H3
      isplitl [H4] <;> iassumption
    isplitl [H6 H7 H8]
    · isplitl [H6]; · iexact H6
      isplitl [H7] <;> iassumption
    isplitl [H9] <;> iassumption
  · iintro ⟨H1, H2, ⟨H3, H4, H5⟩, ⟨H6, H7, H8⟩, H9, H10⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption

theorem units_of_kinds (Φ : Kd × Fin 8 → sProp 𝕄) : bigSep Finset.univ Φ ⊣⊢ sepL us fun u => perU fun k => Φ (k, u) := by
  rw [bigSep_univ_equiv (Equiv.prodComm (Fin 8) Kd) Φ, bigSep_univ_prod]
  exact ⟨(sepL_of_us _).trans (sepL_mono us fun u => (kd_eq fun k => Φ (k, u)).1), (sepL_mono us fun u => (kd_eq fun k => Φ (k, u)).2).trans (us_of_sepL _)⟩

theorem bool_eq (Φ : Bool → sProp 𝕄) : bigSep Finset.univ Φ = iprop(Φ false ∗ Φ true) :=
  bigSep_univ_eq_bigSepL [false, true] (by decide) (by decide) Φ

/-- The cells of a device: per kind and unit, its send and its receive cell. -/
theorem cells_eq (Φ : Ck → sProp 𝕄) : bigSep Finset.univ Φ = bigSep Finset.univ fun ku : Kd × Fin 8 => iprop(Φ (ku.1, false, ku.2) ∗ Φ (ku.1, true, ku.2)) := by
  rw [bigSep_univ_prod Φ, bigSep_univ_prod]
  refine bigSep_congr fun k _ => ?_
  rw [bigSep_univ_prod, bool_eq, bigSep_sep']

end Kinds

end Cert.KernelIdeal.Own

end
-- ==== Proof.Run.lean ====
/-
The body run on a device: the entry handshake, the partial product, and the seven phases over all the units.
-/
module

public import proofs.«01_k».proof.Proof.Body

@[expose] public section

set_option maxRecDepth 8000

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Cont F)

section Run
variable (K : Dev nD × Option Ck → ℕ) (c : Dev nD)

/-! ## The handshake -/

theorem step_sig (j : Fin 5) (l : List Pay) (k : KProg F) (Q : PUnit → sProp 𝕄) :
    iprop(ctx P K ∗ dutyTok ER (barCell (nbr c j)) 0 (dual j) ∗ barPay (nbr c j) (dual j) ∗ owesE c (Pay.sig j :: l) ∗ (owesE c l -∗ WP c k Q))
      ⊢ WP c (sig1 closed c j k) Q := by
  unfold owesE
  iintro ⟨#Hctx, Ht, Hp, ⟨%W, HO⟩, Hk⟩
  iapply (Rounds.wp_signal 𝒱₀ ER (Rd P) (c : Thread nD τ) none (dst := (nbr c j : Thread nD τ)) (κ := K (nbr c j, none))
      (d := dual j) (by rw [duties_bar]; exact Finset.mem_univ _) ((amount_bar P (nbr c j) (dual j)).trans (by decide)) () (owe c l) rfl)
    $$ [HO Ht Hp]
  · isplitr; · iapply (ctx_inv P K (nbr c j, none)); iexact Hctx
    isplitl [HO]; · iexact HO
    isplitl [Ht]; · iexact Ht
    isplitl [Hp]
    · iapply (Entails.of_eq (payload_bar P (nbr c j) (dual j)).symm); iexact Hp
    iapply (ctx_reached P K (nbr c j, none)); iexact Hctx
  iintro HO
  iapply Hk
  iexists W; iexact HO

theorem wait_bar (l : List Pay) (hl : Above 1 l) (k : KProg F) (Q : PUnit → sProp 𝕄) :
    iprop(ctx P K ∗ atPos ER (barCell c) 0 ∅ 0 ∗ cred (tallyAt (barCell c) () 5) ∗ owesE c l
        ∗ (((barPay c 0 ∗ barPay c 1 ∗ barPay c 2 ∗ barPay c 3 ∗ barPay c 4) ∗ semVal (barCell c) 0 ∗ owesE c l) -∗ WP c k Q))
      ⊢ WP c (.op (.semWait barS (5#32).toInt) fun _ => k) Q := by
  unfold owesE
  have hlt : ∀ p ∈ l, lv (barCell c) () < lvP p := fun p hp => lt_of_eq_of_lt (lv_bar c) (hl p hp)
  have hmw : ctx P K ⊢ MayWait (c : Thread nD τ) (.reg barS) () (owe c l) := (ctx_lev P K).trans (mayWait c (.reg barS) l hlt)
  iintro ⟨#Hctx, Hat, Hcr, ⟨%W, HO⟩, Hk⟩
  iapply (Rounds.wp_wait_rest_token 𝒱₀ ER (Rd P) (c : Thread nD τ) none (κ := K (c, none))
      (wpE_semWait_eq 𝒱₀ (c : Thread nD τ) none Set.univ) (Set.mem_univ _) () (O := owe c l) (W := W) (R := 0) (m := 0) (T := ∅)
      (by rw [expect_bar]; decide)) $$ [Hcr HO Hat]
  · isplitr; · iapply (ctx_inv P K (c, none)); iexact Hctx
    isplitl [Hcr]; · iexact Hcr
    isplitl [HO]; · iexact HO
    isplitr; · iapply hmw; iexact Hctx
    iexact Hat
  iintro ⟨HO, Hat, -, Hpay⟩
  ihave Hp := (Entails.of_eq (rest_bar P c)) $$ Hpay
  imod (Rounds.cell_close ER (Rd P) (Set.mem_univ (K (c, none))) (fun h => h) (R := 0 + 1) (duties_later P (barCell c))) $$ [Hat] with Hz
  · isplitr; · iapply (ctx_inv P K (c, none)); iexact Hctx
    iexact Hat
  iapply Hk
  isplitl [Hp]; · iexact Hp
  isplitl [Hz]; · iexact Hz
  iexists _; iexact HO

/-! ## The partial product -/

theorem hz : (![0, 0] : Fin 2 → Nat) = fun _ => 0 := funext fun a => by fin_cases a <;> rfl

/-- A device's whole buffer, at contents. -/
def stgP (b : Ref sig .tc) (f : b.ty.Contents (Elt F)) : sProp 𝕄 := ((c : Thread nD τ).loc b) ↦{fullShare} f

theorem step_prod (x : Vec F S1024x64 .f32) (w : Vec F S64x1024 .f32) (o : Cont F) (k : KProg F) (Q : PUnit → sProp 𝕄) :
    iprop(stgP c cc0_stg0_0 x ∗ stgP c cc0_stg1_0 w ∗ stgP c cc0_stg2_0 o
        ∗ ((stgP c cc0_stg0_0 x ∗ stgP c cc0_stg1_0 w ∗ stgP c cc0_stg2_0 (k0_pay1 x w)) -∗ WP c k Q))
      ⊢ WP c (prod k) Q := by
  unfold stgP
  iintro ⟨Hx, Hw, Ho, Hk⟩
  unfold prod
  iapply (wp_load 𝒱₀ (c : Thread nD τ) none Set.univ (m := b0) (Finset.subset_univ _)) $$ Hx; iintro Hx
  rw [show b0.view.readAt (Elt F) (Rect.unit (s := S1024x64) ![0, 0] S1024x64.size inb_S1024x64_S1024x64_0_0).toLoadRect x = x from
    Memref.readAt_unit_zero (Elt F) cc0_stg0_0 hz _ x]
  iapply (wp_load 𝒱₀ (c : Thread nD τ) none Set.univ (m := b1) (Finset.subset_univ _)) $$ Hw; iintro Hw
  rw [show b1.view.readAt (Elt F) (Rect.unit (s := S64x1024) ![0, 0] S64x1024.size inb_S64x1024_S64x1024_0_0).toLoadRect w = w from
    Memref.readAt_unit_zero (Elt F) cc0_stg1_0 hz _ w]
  iapply (wp_load 𝒱₀ (c : Thread nD τ) none Set.univ (m := b2) (Finset.subset_univ _)) $$ Ho; iintro Ho
  iapply (wp_store 𝒱₀ (c : Thread nD τ) none Set.univ (m := b2) (r := Rect.unit (s := S1024x1024) ![0, 0] S1024x1024.size inb_S1024x1024_S1024x1024_0_0)
    (Mk := Finset.univ) (Finset.subset_univ _)) $$ Ho; iintro Ho
  rw [show (b2.access (Rect.unit (s := S1024x1024) ![0, 0] S1024x1024.size inb_S1024x1024_S1024x1024_0_0)).write (Elt F) o (k0_pay1 x w) Finset.univ = k0_pay1 x w from
    Memref.write_access_unit_zero_univ (Elt F) cc0_stg2_0 hz _ o _]
  iapply Hk
  isplitl [Hx]; · iexact Hx
  isplitl [Hw] <;> iassumption

/-! ## The phases in a row -/

/-- What is left aside during each phase. -/
abbrev restI (u : Fin 8) : sProp 𝕄 := iprop(s3 (fun t => idle c (.zb t) u) ∗ idle c .ag0 u ∗ idle c .ag1 u)
abbrev sideA (u : Fin 8) : sProp 𝕄 := iprop(outP c fullShare 512 (r1 c u) u (P c) ∗ land4E (p2 c u) u ∗ idle c .rs1 u
  ∗ s3 (fun t => land5E (zp c t) t u) ∗ s3 (fun t => idle c (.zs t) u) ∗ restI c u)
abbrev sideB (u : Fin 8) : sProp 𝕄 := iprop(s3 (fun t => land5E (zp c t) t u) ∗ s3 (fun t => idle c (.zs t) u) ∗ restI c u)
abbrev endB (u : Fin 8) : sProp 𝕄 := iprop(done c (.rs0, false, u) ∗ done c (.rs0, true, u) ∗ land3E c u)
abbrev sideC (u : Fin 8) : sProp 𝕄 := iprop(endB c u ∗ outE (p1 c u) 512 (r1 c u) u ∗ restI c u)
abbrev endC (u : Fin 8) : sProp 𝕄 := iprop(done c (.rs1, false, u) ∗ done c (.rs1, true, u) ∗ land4E c u)
abbrev sideD (u : Fin 8) : sProp 𝕄 := iprop(endC c u ∗ endB c u ∗ outE (p1 c u) 512 (r1 c u) u ∗ outE (p2 c u) 256 (r2 c u) u ∗ idle c .ag0 u ∗ idle c .ag1 u)
abbrev endD (u : Fin 8) : sProp 𝕄 := iprop(s3 (fun t => done c (.zs t, false, u)) ∗ s3 (fun t => done c (.zs t, true, u)) ∗ s3 (fun t => land5E c t u))
abbrev sideE (u : Fin 8) : sProp 𝕄 := iprop(endD c u ∗ endC c u ∗ endB c u ∗ outE (p1 c u) 512 (r1 c u) u ∗ idle c .ag1 u)
abbrev endE (u : Fin 8) : sProp 𝕄 := iprop(s3 (fun t => done c (.zb t, false, u)) ∗ s3 (fun t => done c (.zb t, true, u)))
abbrev sideF (u : Fin 8) : sProp 𝕄 := iprop(endE c u ∗ endD c u ∗ endC c u ∗ endB c u)
abbrev endF (u : Fin 8) : sProp 𝕄 := iprop(done c (.ag0, false, u) ∗ done c (.ag0, true, u))
abbrev sideG (u : Fin 8) : sProp 𝕄 := iprop(endF c u ∗ sideF c u)

theorem A_to_B (u : Fin 8) : iprop(giveA c u ∗ sideA P c u) ⊢ iprop(needB P c u ∗ sideB c u) := by
  iintro ⟨Hs, Ho, Hl, Hi, H5, Hz, Hr⟩
  isplitr [H5 Hz Hr]
  · isplitl [Hs]; · iexact Hs
    isplitl [Ho]; · iexact Ho
    isplitl [Hl] <;> iassumption
  isplitl [H5]; · iexact H5
  isplitl [Hz] <;> iassumption
theorem B_to_C (u : Fin 8) : iprop(giveB P c u ∗ sideB c u) ⊢ iprop(needC P c u ∗ sideC c u) := by
  iintro ⟨⟨⟨Hd1, Hd2, Hl, HE⟩, Ho, Hs, Ht⟩, H5, Hz, Hr⟩
  isplitr [Hd1 Hd2 Hl HE Hr]
  · isplitl [Hs]; · iexact Hs
    isplitl [Ht]; · iexact Ht
    isplitl [Ho]; · iexact Ho
    isplitl [H5] <;> iassumption
  isplitl [Hd1 Hd2 Hl]
  · isplitl [Hd1]; · iexact Hd1
    isplitl [Hd2] <;> iassumption
  isplitl [HE] <;> iassumption
theorem C_to_D (u : Fin 8) : iprop(giveC P c u ∗ sideC c u) ⊢ iprop(needD P c u ∗ sideD c u) := by
  iintro ⟨⟨⟨Hd1, Hd2, Hl, HE2⟩, Ho, Hs, Ht⟩, HB, HE1, Hz, Ha, Hb⟩
  isplitr [Hd1 Hd2 Hl HE2 HB HE1 Ha Hb]
  · isplitl [Hs]; · iexact Hs
    isplitl [Ht]; · iexact Ht
    isplitl [Ho] <;> iassumption
  isplitl [Hd1 Hd2 Hl]
  · isplitl [Hd1]; · iexact Hd1
    isplitl [Hd2] <;> iassumption
  isplitl [HB]; · iexact HB
  isplitl [HE1]; · iexact HE1
  isplitl [HE2]; · iexact HE2
  isplitl [Ha] <;> iassumption
theorem D_to_E (u : Fin 8) : iprop(giveD P c u ∗ sideD c u) ⊢ iprop(needE P c u ∗ sideE c u) := by
  iintro ⟨⟨HD, Ho, Hs, Ht⟩, HC, HB, HE1, HE2, Ha, Hb⟩
  isplitr [HD HC HB HE1 Hb]
  · isplitl [Hs]; · iexact Hs
    isplitl [Ht]; · iexact Ht
    isplitl [Ho]; · iexact Ho
    isplitl [HE2] <;> iassumption
  isplitl [HD]; · iexact HD
  isplitl [HC]; · iexact HC
  isplitl [HB]; · iexact HB
  isplitl [HE1] <;> iassumption
theorem E_to_F (u : Fin 8) : iprop(giveE P c u ∗ sideE c u) ⊢ iprop(needF P c u ∗ sideF c u) := by
  iintro ⟨⟨HEe, Ho, Hs, Ht⟩, HD, HC, HB, HE1, Hb⟩
  isplitr [HEe HD HC HB]
  · isplitl [Hs Ht]
    · isplitl [Hs] <;> iassumption
    isplitl [Ho]; · iexact Ho
    isplitl [HE1] <;> iassumption
  isplitl [HEe]; · iexact HEe
  isplitl [HD]; · iexact HD
  isplitl [HC] <;> iassumption
theorem F_to_G (u : Fin 8) : iprop(giveF c u ∗ sideF c u) ⊢ (iprop(needG c u ∗ sideG c u) : sProp 𝕄) := by
  iintro ⟨⟨HF, Hs, Ht⟩, HR⟩
  isplitl [Hs Ht]
  · isplitl [Hs] <;> iassumption
  isplitl [HF] <;> iassumption

/-- What a unit ends with. -/
abbrev ends (u : Fin 8) : sProp 𝕄 :=
  iprop(outP c fullShare 1024 0 u (Fn P) ∗ perU (fun k => iprop(done c (k, false, u) ∗ done c (k, true, u))) ∗ land3E c u ∗ land4E c u ∗ s3 (fun t => land5E c t u))
theorem G_to_end (u : Fin 8) : iprop(giveG P c u ∗ sideG c u) ⊢ ends P c u := by
  unfold ends sideG sideF endE endD endC endB perU s3
  iintro ⟨⟨HG, Ho⟩, HF, ⟨⟨Hb0, Hb1, Hb2⟩, Hb0', Hb1', Hb2'⟩, ⟨⟨Hs0, Hs1, Hs2⟩, ⟨Hs0', Hs1', Hs2'⟩, H5⟩, ⟨Hc, Hc', H4⟩, Hd, Hd', H3⟩
  isplitl [Ho]; · iexact Ho
  isplitr [H3 H4 H5]
  · isplitl [Hd Hd']
    · isplitl [Hd] <;> iassumption
    isplitl [Hc Hc']
    · isplitl [Hc] <;> iassumption
    isplitl [Hs0 Hs1 Hs2 Hs0' Hs1' Hs2']
    · isplitl [Hs0 Hs0']
      · isplitl [Hs0] <;> iassumption
      isplitl [Hs1 Hs1']
      · isplitl [Hs1] <;> iassumption
      isplitl [Hs2] <;> iassumption
    isplitl [Hb0 Hb1 Hb2 Hb0' Hb1' Hb2']
    · isplitl [Hb0 Hb0']
      · isplitl [Hb0] <;> iassumption
      isplitl [Hb1 Hb1']
      · isplitl [Hb1] <;> iassumption
      isplitl [Hb2] <;> iassumption
    isplitl [HF] <;> iassumption
  isplitl [H3]; · iexact H3
  isplitl [H4] <;> iassumption

/-- The seven phases. -/
theorem phases (Q : PUnit → sProp 𝕄) :
    iprop(ctx P K ∗ sepL us (fun u => iprop(needA P c u ∗ sideA P c u)) ∗ owesE c restA ∗ ((sepL us (ends P c) ∗ owesE c restG) -∗ WP c (.ret ⟨⟩) Q))
      ⊢ WP c (us.foldr (stepA closed c) <| us.foldr (stepB closed c) <| us.foldr (stepC closed c) <| us.foldr (stepD closed c) <|
          us.foldr (stepE closed c) <| us.foldr (stepF closed c) <| us.foldr (stepG closed c) <| .ret ⟨⟩) Q := by
  iintro ⟨#Hctx, H, HO, Hk⟩
  iapply (loop c (stepA closed c) (ctx P K) (needA P c) (giveA c) (sideA P c) (fun l => owesE c (l.map (Pay.dma .rs0) ++ restB)) (step_A P K c) us)
  isplitr; · iexact Hctx
  isplitl [H]; · iexact H
  isplitl [HO]; · iexact HO
  iintro ⟨H, HO⟩
  ihave H := (sepL_mono us (A_to_B P c)) $$ H
  iapply (loop c (stepB closed c) (ctx P K) (needB P c) (giveB P c) (sideB c) (fun l => owesE c (l.map (Pay.dma .rs1) ++ restC)) (step_B P K c) us)
  isplitr; · iexact Hctx
  isplitl [H]; · iexact H
  isplitl [HO]; · iexact HO
  iintro ⟨H, HO⟩
  ihave H := (sepL_mono us (B_to_C P c)) $$ H
  iapply (loop c (stepC closed c) (ctx P K) (needC P c) (giveC P c) (sideC c) (fun l => owesE c (zPays Kd.zs l ++ restD)) (step_C P K c) us)
  isplitr; · iexact Hctx
  isplitl [H]; · iexact H
  isplitl [HO]; · iexact HO
  iintro ⟨H, HO⟩
  ihave H := (sepL_mono us (C_to_D P c)) $$ H
  iapply (loop c (stepD closed c) (ctx P K) (needD P c) (giveD P c) (sideD c) (fun l => owesE c (zPays Kd.zb l ++ restE)) (step_D P K c) us)
  isplitr; · iexact Hctx
  isplitl [H]; · iexact H
  isplitl [HO]; · iexact HO
  iintro ⟨H, HO⟩
  ihave H := (sepL_mono us (D_to_E P c)) $$ H
  iapply (loop c (stepE closed c) (ctx P K) (needE P c) (giveE P c) (sideE c) (fun l => owesE c (l.map (Pay.dma .ag0) ++ restF)) (step_E P K c) us)
  isplitr; · iexact Hctx
  isplitl [H]; · iexact H
  isplitl [HO]; · iexact HO
  iintro ⟨H, HO⟩
  ihave H := (sepL_mono us (E_to_F P c)) $$ H
  iapply (loop c (stepF closed c) (ctx P K) (needF P c) (giveF c) (sideF c) (fun l => owesE c (l.map (Pay.dma .ag1) ++ restG)) (step_F P K c) us)
  isplitr; · iexact Hctx
  isplitl [H]; · iexact H
  isplitl [HO]; · iexact HO
  iintro ⟨H, HO⟩
  ihave H := (sepL_mono us (F_to_G c)) $$ H
  iapply (loop c (stepG closed c) (ctx P K) (needG c) (giveG P c) (sideG c) (fun _ => owesE c restG) (step_G P K c) us)
  isplitr; · iexact Hctx
  isplitl [H]; · iexact H
  isplitl [HO]; · iexact HO
  iintro ⟨H, HO⟩
  ihave H := (sepL_mono us (G_to_end P c)) $$ H
  iapply Hk
  isplitl [H] <;> iassumption

/-! ## The whole body -/

theorem unit_start (u : Fin 8) :
    iprop(outP c fullShare 1024 0 u (P c) ∗ (land3E (p1 c u) u ∗ land4E (p2 c u) u) ∗ s3 (fun t => land5E (zp c t) t u) ∗ perU (fun k => idle c k u))
      ⊢ iprop(needA P c u ∗ sideA P c u) := by
  have h := (out_half (F := F) (d := c) (q := fullShare) (u := u) (f := P c) c).1
  unfold perU
  iintro ⟨Ho, ⟨H3, H4⟩, H5, I1, I2, I3, I4, I5, I6⟩
  ihave Ho := h $$ Ho
  icases Ho with ⟨Ho, Ho'⟩
  isplitl [Ho' H3 I1]
  · isplitl [Ho']; · iexact Ho'
    isplitl [H3] <;> iassumption
  isplitl [Ho]; · iexact Ho
  isplitl [H4]; · iexact H4
  isplitl [I2]; · iexact I2
  isplitl [H5]; · iexact H5
  isplitl [I3]; · iexact I3
  isplitl [I4]; · iexact I4
  isplitl [I5] <;> iassumption

theorem units_start :
    iprop(stgP c cc0_stg2_0 (P c) ∗ (barPay c 0 ∗ barPay c 1 ∗ barPay c 2 ∗ barPay c 3 ∗ barPay c 4)
        ∗ bigSep Finset.univ (fun ku : Kd × Fin 8 => idle c ku.1 ku.2))
      ⊢ sepL us (fun u => iprop(needA P c u ∗ sideA P c u)) := by
  have h1 : stgP c cc0_stg2_0 (P c) ⊢ sepL us (fun u => outP c fullShare 1024 0 u (P c)) :=
    (Entails.of_eq (out_whole (F := F) (d := c) (q := fullShare) (f := P c))).trans (sepL_of_us _)
  have h2 := bar_take (F := F) c
  have h3 : (iprop(barPay c 2 ∗ barPay c 3 ∗ barPay c 4) : sProp 𝕄) ⊢ sepL us (fun u => s3 (fun t => land5E (zp c t) t u)) :=
    (sep_mono_right (sepL_join us (land5E (zp c 1) 1) (land5E (zp c 2) 2))).trans (sepL_join us (land5E (zp c 0) 0) _)
  have h4 := (units_of_kinds (F := F) (fun ku => idle c ku.1 ku.2)).1
  iintro ⟨Ho, ⟨B0, B1, B2⟩, HI⟩
  ihave Ho := h1 $$ Ho
  ihave Hl := h2 $$ [B0 B1]
  · isplitl [B0] <;> iassumption
  ihave Hz := h3 $$ B2
  ihave HI := h4 $$ HI
  iapply (sepL_mono us (unit_start P c))
  iapply (sepL_join us _ _)
  isplitl [Ho]; · iexact Ho
  iapply (sepL_join us _ _)
  isplitl [Hl]; · iexact Hl
  iapply (sepL_join us _ _)
  isplitl [Hz] <;> iassumption

theorem units_end : sepL us (ends P c) ⊢ iprop(stgP c cc0_stg2_0 (Fn P) ∗ bigSep Finset.univ (done c)
    ∗ sepL us (land3E c) ∗ sepL us (land4E c) ∗ sepL us (land5E c 0) ∗ sepL us (land5E c 1) ∗ sepL us (land5E c 2)) := by
  have h1 : sepL us (fun u => outP c fullShare 1024 0 u (Fn P)) ⊢ stgP c cc0_stg2_0 (Fn P) :=
    (us_of_sepL _).trans (Entails.of_eq (out_whole (F := F) (d := c) (q := fullShare) (f := Fn P)).symm)
  have h2 : sepL us (fun u => perU (fun k => iprop(done c (k, false, u) ∗ done c (k, true, u)))) ⊢ (bigSep Finset.univ (done c) : sProp 𝕄) :=
    (units_of_kinds (F := F) (fun ku => iprop(done c (ku.1, false, ku.2) ∗ done c (ku.1, true, ku.2)))).2.trans (Entails.of_eq (cells_eq (done c)).symm)
  have h5 : sepL us (fun u => s3 (fun t => land5E c t u)) ⊢ (iprop(sepL us (land5E c 0) ∗ sepL us (land5E c 1) ∗ sepL us (land5E c 2)) : sProp 𝕄) :=
    (sepL_sep us (land5E c 0) (fun u => iprop(land5E c 1 u ∗ land5E c 2 u))).trans (sep_mono_right (sepL_sep us _ _))
  iintro H
  ihave H := (sepL_sep us _ _) $$ H
  icases H with ⟨Ho, H⟩
  ihave H := (sepL_sep us _ _) $$ H
  icases H with ⟨Hd, H⟩
  ihave H := (sepL_sep us _ _) $$ H
  icases H with ⟨H3, H⟩
  ihave H := (sepL_sep us _ _) $$ H
  icases H with ⟨H4, H⟩
  ihave H := h5 $$ H
  icases H with ⟨H5, H6, H7⟩
  isplitl [Ho]; · iapply h1; iexact Ho
  isplitl [Hd]; · iapply h2; iexact Hd
  isplitl [H3]; · iexact H3
  isplitl [H4]; · iexact H4
  isplitl [H5]; · iexact H5
  isplitl [H6] <;> iassumption

/-- The rights to the five signals of the handshake. -/
abbrev sigToks : sProp 𝕄 := iprop(dutyTok ER (barCell (nbr c 0)) 0 (dual 0) ∗ dutyTok ER (barCell (nbr c 1)) 0 (dual 1)
  ∗ dutyTok ER (barCell (nbr c 2)) 0 (dual 2) ∗ dutyTok ER (barCell (nbr c 3)) 0 (dual 3) ∗ dutyTok ER (barCell (nbr c 4)) 0 (dual 4))

/-- What the body starts with besides its staged arrays: the records, its own cells, its scratch buffers. -/
def pre0 : sProp 𝕄 := iprop(ctx P K ∗ atPos ER (barCell c) 0 ∅ 0 ∗ cred (tallyAt (barCell c) () 5) ∗ sigToks c
  ∗ bigSep Finset.univ (fun ku : Kd × Fin 8 => idle c ku.1 ku.2) ∗ bufE c cc0_scratch0 ∗ bufE c cc0_scratch1 ∗ bufE c cc0_scratch2)
/-- What it ends with. -/
def post0 : sProp 𝕄 := iprop(semVal (barCell c) 0 ∗ bigSep Finset.univ (done c) ∗ bufE c cc0_scratch0 ∗ bufE c cc0_scratch1 ∗ bufE c cc0_scratch2)

theorem run_nf (x : Vec F S1024x64 .f32) (w : Vec F S64x1024 .f32) (o : Cont F) (hP : P c = k0_pay1 x w) (Q : PUnit → sProp 𝕄) :
    iprop(pre0 P K c ∗ (stgP c cc0_stg0_0 x ∗ stgP c cc0_stg1_0 w ∗ stgP c cc0_stg2_0 o) ∗ owesE c pays
        ∗ ((post0 c ∗ (stgP c cc0_stg0_0 x ∗ stgP c cc0_stg1_0 w ∗ stgP c cc0_stg2_0 (Fn P)) ∗ owesE c []) -∗ Q ⟨⟩))
      ⊢ WP c (nf closed c) Q := by
  unfold pre0 sigToks post0
  have e3 := land3_split (F := F) c
  have e4 := land4_split (F := F) c
  have e5 := land5_split (F := F) c
  have g2 : (sepL us (land5E c 2) : sProp 𝕄) ⊢ barPay (nbr c 2) (dual 2) := bar_give5 c 0 2 rfl
  have g3 : (sepL us (land5E c 1) : sProp 𝕄) ⊢ barPay (nbr c 3) (dual 3) := bar_give5 c 1 3 rfl
  have g4 : (sepL us (land5E c 0) : sProp 𝕄) ⊢ barPay (nbr c 4) (dual 4) := bar_give5 c 2 4 rfl
  iintro ⟨⟨#Hctx, HatB, HcrB, ⟨T0, T1, T2, T3, T4⟩, HI, S3, S4, S5⟩, ⟨Hx, Hw, Ho⟩, HO, Hk⟩
  ihave S3 := e3.1 $$ S3
  icases S3 with ⟨E3, S3⟩
  ihave S4 := e4.1 $$ S4
  icases S4 with ⟨E4, S4⟩
  ihave S5 := e5.1 $$ S5
  icases S5 with ⟨E5, S50, S51, S52⟩
  ihave HB := (bar_give (F := F) c) $$ [S3 S4]
  · isplitl [S3] <;> iassumption
  icases HB with ⟨B0, B1⟩
  ihave B2 := g2 $$ S52
  ihave B3 := g3 $$ S51
  ihave B4 := g4 $$ S50
  unfold nf
  iapply (step_sig P K c 0 _ _ Q)
  isplitr; · iexact Hctx
  isplitl [T0]; · iexact T0
  isplitl [B0]; · iexact B0
  isplitl [HO]; · iexact HO
  iintro HO
  iapply (step_sig P K c 1 _ _ Q)
  isplitr; · iexact Hctx
  isplitl [T1]; · iexact T1
  isplitl [B1]; · iexact B1
  isplitl [HO]; · iexact HO
  iintro HO
  iapply (step_sig P K c 2 _ _ Q)
  isplitr; · iexact Hctx
  isplitl [T2]; · iexact T2
  isplitl [B2]; · iexact B2
  isplitl [HO]; · iexact HO
  iintro HO
  iapply (step_sig P K c 3 _ _ Q)
  isplitr; · iexact Hctx
  isplitl [T3]; · iexact T3
  isplitl [B3]; · iexact B3
  isplitl [HO]; · iexact HO
  iintro HO
  iapply (step_sig P K c 4 _ _ Q)
  isplitr; · iexact Hctx
  isplitl [T4]; · iexact T4
  isplitl [B4]; · iexact B4
  isplitl [HO]; · iexact HO
  iintro HO
  iapply (wait_bar P K c restA above_A _ Q)
  isplitr; · iexact Hctx
  isplitl [HatB]; · iexact HatB
  isplitl [HcrB]; · iexact HcrB
  isplitl [HO]; · iexact HO
  iintro ⟨HB, Hz, HO⟩
  iapply (step_prod c x w o _ Q)
  isplitl [Hx]; · iexact Hx
  isplitl [Hw]; · iexact Hw
  isplitl [Ho]; · iexact Ho
  rw [← hP]
  iintro ⟨Hx, Hw, Ho⟩
  iapply (phases P K c Q)
  isplitr; · iexact Hctx
  isplitl [Ho HB HI]
  · iapply (units_start P c)
    isplitl [Ho]; · iexact Ho
    isplitl [HB] <;> iassumption
  isplitl [HO]; · iexact HO
  iintro ⟨H, HO⟩
  ihave H := (units_end P c) $$ H
  icases H with ⟨Ho, Hd, S3, S4, S5⟩
  unfold WP; rw [wp_ret]
  imodintro
  iapply Hk
  isplitr [Hx Hw Ho HO]
  · isplitl [Hz]; · iexact Hz
    isplitl [Hd]; · iexact Hd
    isplitl [E3 S3]
    · iapply e3.2
      isplitl [E3] <;> iassumption
    isplitl [E4 S4]
    · iapply e4.2
      isplitl [E4] <;> iassumption
    · iapply e5.2
      isplitl [E5] <;> iassumption
  isplitr [HO]
  · isplitl [Hx]; · iexact Hx
    isplitl [Hw] <;> iassumption
  iexact HO

end Run

end Cert.KernelIdeal.Own

end
-- ==== Proof.Ghost.lean ====
/-
What the launch deals the devices: the cells' states, positions and rights, regrouped from the device that owns a cell to
the device that pays into it, and the credit of what the devices owe.
-/
module

public import proofs.«01_k».proof.Proof.Run

@[expose] public section

set_option maxRecDepth 8000

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Cont F)

/-! ## The ghost state at launch -/

theorem kcell_injective : Function.Injective (kcell : Dev nD × Option Ck → GSem nD τ sig) := by
  rintro ⟨c, k⟩ ⟨c', k'⟩ h
  have h1 : c = c' := congrArg (fun g : GSem nD τ sig => g.1.1) h
  have h2 : csem k = csem k' := congrArg Prod.snd h
  refine Prod.ext h1 ?_
  cases k with
  | none => cases k' with
    | none => rfl
    | some ck' => exact absurd h2.symm (osem_ne_bar ck')
  | some ck => cases k' with
    | none => exact absurd h2 (osem_ne_bar ck)
    | some ck' => exact congrArg some (osem_injective h2)

def allCells : Finset (GSem nD τ sig) := Finset.univ.map ⟨kcell, kcell_injective⟩

/-- The duties of a device's own cells: five of its barrier cell, one of each transfer cell. -/
def tokOf (ct : Dev nD × (Fin 5 ⊕ Ck)) : GSem nD τ sig × ℕ × Fin 5 := match ct.2 with
  | .inl j => (barCell ct.1, 0, j)
  | .inr ck => (dcell ct.1 ck, 0, 0)
theorem tokOf_injective : Function.Injective tokOf := by
  rintro ⟨c, t⟩ ⟨c', t'⟩ h
  cases t with
  | inl j => cases t' with
    | inl j' =>
      have h1 : c = c' := congrArg (fun x : GSem nD τ sig × ℕ × Fin 5 => x.1.1.1) h
      have h2 : j = j' := congrArg (fun x : GSem nD τ sig × ℕ × Fin 5 => x.2.2) h
      rw [h1, h2]
    | inr ck =>
      have h2 : SemLoc.reg barS = osem ck := congrArg (fun x : GSem nD τ sig × ℕ × Fin 5 => x.1.2) h
      exact absurd h2.symm (osem_ne_bar ck)
  | inr ck => cases t' with
    | inl j' =>
      have h2 : osem ck = SemLoc.reg barS := congrArg (fun x : GSem nD τ sig × ℕ × Fin 5 => x.1.2) h
      exact absurd h2 (osem_ne_bar ck)
    | inr ck' =>
      have h1 : c = c' := congrArg (fun x : GSem nD τ sig × ℕ × Fin 5 => x.1.1.1) h
      have h2 : osem ck = osem ck' := congrArg (fun x : GSem nD τ sig × ℕ × Fin 5 => x.1.2) h
      rw [h1, osem_injective h2]
def allToks : Finset (GSem nD τ sig × ℕ × Fin 5) := Finset.univ.map ⟨tokOf, tokOf_injective⟩

def u₀ : UU := (initOf (Pipeline.cells cfgs cellOf_inj) (Pipeline.launchToks cfgs cellOf_inj), initOf allCells allToks)

/-- The rights to pay into a device's own cells. -/
def toks (c : Dev nD) : sProp 𝕄 :=
  iprop((bigSep Finset.univ fun j : Fin 5 => dutyTok ER (barCell c) 0 j) ∗ bigSep Finset.univ fun ck : Ck => dutyTok ER (dcell c ck) 0 0)
/-- The rights a device pays with. -/
def payToks (c : Dev nD) : sProp 𝕄 :=
  iprop((bigSep Finset.univ fun j : Fin 5 => dutyTok ER (barCell (nbr c j)) 0 (dual j))
    ∗ bigSep Finset.univ fun ku : Kd × Fin 8 => iprop(dutyTok ER (dcell c (ku.1, false, ku.2)) 0 0 ∗ dutyTok ER (dcell (peer c ku.1 ku.2) (ku.1, true, ku.2)) 0 0))

/-- What the launch deals device `c`. -/
def G (c : Dev nD) : sProp 𝕄 :=
  iprop((bigSep Finset.univ fun k : Option Ck => roundState ER (Rd P) (kcell (c, k)) 0)
    ∗ (bigSep Finset.univ fun k : Option Ck => iprop(atPos ER (kcell (c, k)) 0 ∅ 0 ∗ reached ER (kcell (c, k)) 0)) ∗ toks c)

/-- What is one device's alone: its positions and the rights it pays with. -/
def linear (c : Dev nD) : sProp 𝕄 := iprop((bigSep Finset.univ fun k : Option Ck => atPos ER (kcell (c, k)) 0 ∅ 0) ∗ payToks c)

/-- What the allocation of the cells makes of it. -/
def G' (c : Dev nD) : sProp 𝕄 := iprop(∃ K, records P K ∗ linear c)

theorem fund_cells : BI.own (ER (initOf allCells allToks)) ⊢ (|==> bigSep Finset.univ (G P) : sProp 𝕄) := by
  have hX (Φ : GSem nD τ sig → sProp 𝕄) : bigSep allCells Φ = bigSep Finset.univ fun c : Dev nD => bigSep Finset.univ fun k : Option Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd P) allCells allToks) $$ HX with ⟨Hst, Hr, Hat, Htok⟩
  imodintro
  ihave Hst := (Entails.of_eq (hX fun g => roundState ER (Rd P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- A device's cells, the barrier cell first. -/
theorem option_eq (Φ : Option Ck → sProp 𝕄) : bigSep Finset.univ Φ = iprop(Φ none ∗ bigSep Finset.univ fun ck => Φ (some ck)) := by
  have h : (Finset.univ : Finset (Option Ck)).erase none = Finset.univ.map Function.Embedding.some := by
    ext k; cases k <;> simp
  rw [bigSep_univ_at Φ none, h, bigSep_map]
  rfl

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

abbrev ownZ (c : Dev nD) : sProp 𝕄 := Pipeline.ownSems0 (Ix := Unit) (Name := ℕ) (U := UU) (Lvl := ℕ) (Val := Elt F) (τ := τ) osem c

theorem sems_eq (c : Dev nD) : iprop(ownZ c ∗ unscopedSems0 c) ⊢ (bigSep Finset.univ fun k : Option Ck => semVal (kcell (c, k)) 0 : sProp 𝕄) := by
  rw [unscoped_eq, option_eq]
  unfold ownZ Pipeline.ownSems0
  iintro ⟨H, HB⟩
  isplitl [HB]; · iexact HB
  iexact H

theorem core_alloc (c : Dev nD) :
    iprop(ownZ c ∗ unscopedSems0 c ∗ G P c)
      ⊢ |={Set.univ}=> iprop((bigSep Finset.univ fun k : Option Ck => iprop(∃ κ : ℕ, cellInv ER (Rd P) κ (kcell (c, k))))
          ∗ (bigSep Finset.univ fun k : Option Ck => iprop(atPos ER (kcell (c, k)) 0 ∅ 0 ∗ reached ER (kcell (c, k)) 0)) ∗ toks c) := by
  have hall : iprop((bigSep Finset.univ fun k : Option Ck => semVal (kcell (c, k)) 0) ∗ bigSep Finset.univ fun k : Option Ck => roundState ER (Rd P) (kcell (c, k)) 0)
      ⊢ (|={Set.univ}=> bigSep Finset.univ fun k : Option Ck => iprop(∃ κ : ℕ, cellInv ER (Rd P) κ (kcell (c, k))) : sProp 𝕄) := by
    rw [← bigSep_sep']
    exact (bigSep_mono fun k _ => (Rounds.body_intro ER (Rd P) (kcell (c, k))).trans inv_alloc).trans (bigSep_fupd _ _)
  unfold G
  iintro ⟨Hos, Hus, Hst, Hat, Htok⟩
  ihave Hv := (sems_eq (F := F) c) $$ [Hos Hus]
  · isplitl [Hos] <;> iassumption
  imod hall $$ [Hv Hst] with Hinv
  · isplitl [Hv] <;> iassumption
  imodintro
  isplitl [Hinv]; · iexact Hinv
  isplitl [Hat] <;> iassumption

/-- Who pays a signal, and who a landing: the rights go from the cell's device to that one. -/
def sigEquiv : Dev nD × Fin 5 ≃ Dev nD × Fin 5 where
  toFun x := (nbr x.1 x.2, dual x.2)
  invFun x := (nbr x.1 x.2, dual x.2)
  left_inv x := Prod.ext (nbr_dual x.1 x.2) (dual_dual x.2)
  right_inv x := Prod.ext (nbr_dual x.1 x.2) (dual_dual x.2)
def landEquiv : Dev nD × (Kd × Fin 8) ≃ Dev nD × (Kd × Fin 8) where
  toFun x := (peer x.1 x.2.1 x.2.2, x.2)
  invFun x := (fro x.1 x.2.1 x.2.2, x.2)
  left_inv x := Prod.ext (fro_peer x.1 x.2.1 x.2.2) rfl
  right_inv x := Prod.ext (peer_fro x.1 x.2.1 x.2.2) rfl

theorem toks_to_payers : (bigSep Finset.univ fun c : Dev nD => (toks c : sProp 𝕄)) = bigSep Finset.univ fun c : Dev nD => payToks c := by
  unfold toks payToks
  rw [bigSep_sep', bigSep_sep']
  have h1 : (bigSep Finset.univ fun c : Dev nD => bigSep Finset.univ fun j : Fin 5 => (dutyTok ER (barCell c) 0 j : sProp 𝕄))
      = bigSep Finset.univ fun c : Dev nD => bigSep Finset.univ fun j : Fin 5 => dutyTok ER (barCell (nbr c j)) 0 (dual j) := by
    rw [← bigSep_univ_prod (fun x : Dev nD × Fin 5 => (dutyTok ER (barCell x.1) 0 x.2 : sProp 𝕄)), bigSep_univ_equiv sigEquiv, bigSep_univ_prod]
    rfl
  have h2 : (bigSep Finset.univ fun c : Dev nD => bigSep Finset.univ fun ku : Kd × Fin 8 => (dutyTok ER (dcell c (ku.1, true, ku.2)) 0 0 : sProp 𝕄))
      = bigSep Finset.univ fun c : Dev nD => bigSep Finset.univ fun ku : Kd × Fin 8 => dutyTok ER (dcell (peer c ku.1 ku.2) (ku.1, true, ku.2)) 0 0 := by
    rw [← bigSep_univ_prod (fun x : Dev nD × (Kd × Fin 8) => (dutyTok ER (dcell x.1 (x.2.1, true, x.2.2)) 0 0 : sProp 𝕄)), bigSep_univ_equiv landEquiv, bigSep_univ_prod]
    rfl
  have h3 : (bigSep Finset.univ fun c : Dev nD => bigSep Finset.univ fun ck : Ck => (dutyTok ER (dcell c ck) 0 0 : sProp 𝕄))
      = iprop((bigSep Finset.univ fun c : Dev nD => bigSep Finset.univ fun ku : Kd × Fin 8 => dutyTok ER (dcell c (ku.1, false, ku.2)) 0 0)
        ∗ bigSep Finset.univ fun c : Dev nD => bigSep Finset.univ fun ku : Kd × Fin 8 => dutyTok ER (dcell c (ku.1, true, ku.2)) 0 0) := by
    rw [← bigSep_sep']
    exact bigSep_congr fun c _ => by rw [cells_eq, bigSep_sep']
  have h4 : (bigSep Finset.univ fun c : Dev nD => bigSep Finset.univ fun ku : Kd × Fin 8 =>
        (iprop(dutyTok ER (dcell c (ku.1, false, ku.2)) 0 0 ∗ dutyTok ER (dcell (peer c ku.1 ku.2) (ku.1, true, ku.2)) 0 0) : sProp 𝕄))
      = iprop((bigSep Finset.univ fun c : Dev nD => bigSep Finset.univ fun ku : Kd × Fin 8 => dutyTok ER (dcell c (ku.1, false, ku.2)) 0 0)
        ∗ bigSep Finset.univ fun c : Dev nD => bigSep Finset.univ fun ku : Kd × Fin 8 => dutyTok ER (dcell (peer c ku.1 ku.2) (ku.1, true, ku.2)) 0 0) := by
    rw [← bigSep_sep']
    exact bigSep_congr fun c _ => by rw [bigSep_sep']
  rw [h1, h3, h2, h4]

/-- A persistent assertion goes to every member. -/
theorem bigSep_share {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun k : Option Ck => iprop(∃ κ : ℕ, cellInv ER (Rd P) κ (kcell (c, k))))
          ∗ (bigSep Finset.univ fun k : Option Ck => iprop(atPos ER (kcell (c, k)) 0 ∅ 0 ∗ reached ER (kcell (c, k)) 0)) ∗ toks c) : sProp 𝕄)
      ⊢ bigSep Finset.univ (G' P) := by
  rw [bigSep_sep', bigSep_sep', ← bigSep_univ_prod (fun ck : Dev nD × Option Ck => iprop(∃ κ : ℕ, cellInv ER (Rd P) κ (kcell ck))),
    bigSep_congr (s := Finset.univ) (fun (c : Dev nD) _ => bigSep_sep' Finset.univ (fun k : Option Ck => (atPos ER (kcell (c, k)) 0 ∅ 0 : sProp 𝕄)) (fun k => reached ER (kcell (c, k)) 0)),
    bigSep_sep', ← bigSep_univ_prod (fun ck : Dev nD × Option Ck => (reached ER (kcell ck) 0 : sProp 𝕄)), toks_to_payers]
  have hlin : iprop((bigSep Finset.univ fun c : Dev nD => bigSep Finset.univ fun k : Option Ck => (atPos ER (kcell (c, k)) 0 ∅ 0 : sProp 𝕄)) ∗ bigSep Finset.univ fun c : Dev nD => payToks c)
      ⊢ bigSep Finset.univ fun c : Dev nD => (linear c : sProp 𝕄) := by
    rw [← bigSep_sep']; exact BI.Entails.refl _
  have hG : ∀ K (c : Dev nD), iprop(records P K ∗ linear c) ⊢ G' P c := fun K c => by
    unfold G'
    iintro H
    iexists K
    iexact H
  iintro ⟨HI, ⟨Hat, #HR⟩, Htok⟩
  ihave HK := (BI.bigSep_exists_pi Finset.univ (fun (ck : Dev nD × Option Ck) (κ : ℕ) => (cellInv ER (Rd P) κ (kcell ck) : sProp 𝕄))) $$ HI
  icases HK with ⟨%K, #HI⟩
  iapply (bigSep_share (R := records P K) (hG K))
  isplitr
  · unfold records; isplitl; · iexact HI
    iexact HR
  · iapply hlin
    isplitl [Hat] <;> iassumption

theorem glob : (bigSep Finset.univ fun c => iprop(ownZ c ∗ unscopedSems0 c ∗ G P c) : sProp 𝕄) ⊢ |={Set.univ}=> bigSep Finset.univ (G' P) :=
  ((bigSep_mono fun c _ => core_alloc P c).trans (bigSep_fupd _ _)).trans (BI.fupd_mono (regroup P))

/-! ## The credit at launch -/

theorem cell_dev {a b : Dev nD} {s s' : SemLoc sig} (h : (((a : Thread nD τ), s) : GSem nD τ sig) = ((b : Thread nD τ), s')) : a = b :=
  congrArg (fun g : GSem nD τ sig => g.1.1) h

/-- What a list of payments pays into a receive cell: its transfers of that kind and unit, if addressed to that device. -/
theorem owe_recv (d c : Dev nD) (k : Kd) (u : Fin 8) (l : List Pay) :
    owe d l (dcell c (k, true, u)) () = if peer d k u = c then l.count (Pay.dma k u) * Nk k else 0 := by
  induction l with
  | nil => rw [List.count_nil, Nat.zero_mul, ite_self]; rfl
  | cons p l ih =>
    rw [owe, Pi.add_apply, Finsupp.add_apply, ih, tallyAt_apply]
    by_cases hp : p = Pay.dma k u
    · subst hp
      rw [List.count_cons_self]
      by_cases hc : peer d k u = c
      · rw [if_pos hc, if_pos hc, if_pos ⟨by rw [← hc]; rfl, rfl⟩, Nat.succ_mul]; rfl
      · rw [if_neg hc, if_neg hc, if_neg fun h => hc (cell_dev h.1).symm]
    · rw [List.count_cons_of_ne hp]
      refine (congrArg₂ (· + ·) rfl (if_neg ?_)).trans (Nat.add_zero _)
      rintro ⟨h, -⟩
      cases p with
      | sig j => exact osem_ne_bar _ (congrArg Prod.snd h)
      | dma k' u' =>
        have h' := osem_injective (congrArg Prod.snd h)
        have e1 : k = k' := congrArg (fun x : Ck => x.1) h'
        have e2 : u = u' := congrArg (fun x : Ck => x.2.2) h'
        exact hp (by rw [e1, e2])

/-- Whether a payment is a signal to `c`. -/
def sigTo (d c : Dev nD) : Pay → ℕ
  | .sig j => if nbr d j = c then 1 else 0
  | .dma _ _ => 0
theorem owe_bar (d c : Dev nD) (l : List Pay) : owe d l (barCell c) () = (l.map (sigTo d c)).sum := by
  induction l with
  | nil => rfl
  | cons p l ih =>
    rw [owe, Pi.add_apply, Finsupp.add_apply, ih, tallyAt_apply, List.map_cons, List.sum_cons, Nat.add_comm]
    congr 1
    cases p with
    | sig j =>
      show _ = if nbr d j = c then 1 else 0
      by_cases hc : nbr d j = c
      · rw [if_pos hc, if_pos ⟨by rw [← hc]; rfl, rfl⟩]; rfl
      · rw [if_neg hc, if_neg fun h => hc (cell_dev h.1).symm]
    | dma k u => exact if_neg fun h => osem_ne_bar _ (congrArg Prod.snd h.1).symm

theorem pays_once : ∀ ku : Kd × Fin 8, pays.count (Pay.dma ku.1 ku.2) = 1 := by decide +kernel
theorem sigs_five : ∀ c : Dev nD, ∑ d : Dev nD, (pays.map (sigTo d c)).sum = 5 := by decide +kernel

abbrev O₀ (c : Dev nD) : CellTallies nD τ sig Unit := owe c pays

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun x => ?_); cases x
  rw [Pipeline.launchCredit_owing, Finsupp.single_eq_same, Finset.sum_congr rfl fun d _ => owe_bar d c pays, sigs_five]
theorem launch_recv (c : Dev nD) (k : Kd) (u : Fin 8) :
    tallyOn (dcell c (k, true, u)) (launchCredit (Pipeline.owing O₀) 0 (dcell c (k, true, u))) = (tallyAt (dcell c (k, true, u)) () (Nk k) : CellTallies nD τ sig Unit) := by
  unfold tallyAt; refine congrArg _ (Finsupp.ext fun x => ?_); cases x
  have h : ∀ d : Dev nD, owe d pays (dcell c (k, true, u)) () = if d = fro c k u then Nk k else 0 := fun d => by
    rw [owe_recv, pays_once (k, u), Nat.one_mul]
    by_cases hd : d = fro c k u
    · rw [if_pos hd, if_pos (by rw [hd]; exact peer_fro c k u)]
    · rw [if_neg hd, if_neg fun hp => hd (by rw [← hp]; exact (fro_peer d k u).symm)]
  rw [Pipeline.launchCredit_owing, Finsupp.single_eq_same, Finset.sum_congr rfl fun d _ => h d,
    Finset.sum_ite_eq' Finset.univ (fro c k u) fun _ => Nk k, if_pos (Finset.mem_univ _)]

/-- The receive cells among all. -/
def recvEmb : Kd × Fin 8 ↪ SemLoc sig where
  toFun ku := osem (ku.1, true, ku.2)
  inj' a b h := by
    have h' : ((a.1, true, a.2) : Ck) = (b.1, true, b.2) := osem_injective h
    exact Prod.ext (congrArg (fun x : Ck => x.1) h') (congrArg (fun x : Ck => x.2.2) h')

theorem creds (c : Dev nD) :
    (Pipeline.launchCred O₀ c : sProp 𝕄) ⊢ iprop(cred (tallyAt (barCell c) () 5)
      ∗ bigSep Finset.univ fun ku : Kd × Fin 8 => cred (tallyAt (dcell c (ku.1, true, ku.2)) () (Nk ku.1))) := by
  have h : (bigSep Finset.univ fun ku : Kd × Fin 8 => (cred (tallyAt (dcell c (ku.1, true, ku.2)) () (Nk ku.1)) : sProp 𝕄))
      = bigSep (Finset.univ.map recvEmb) fun s : SemLoc sig => cred (tallyOn ((c.tc : Thread nD τ), s) (launchCredit (Pipeline.owing O₀) 0 ((c.tc : Thread nD τ), s))) := by
    rw [bigSep_map]
    exact bigSep_congr fun ku _ => by rw [← launch_recv]; rfl
  unfold Pipeline.launchCred
  rw [bigSep_univ_at _ (SemLoc.reg barS), launch_bar, h]
  refine sep_mono_right (bigSep_subset fun s hs => ?_)
  obtain ⟨ku, -, rfl⟩ := Finset.mem_map.mp hs
  exact Finset.mem_erase.mpr ⟨osem_ne_bar _, Finset.mem_univ _⟩

/-! ## What the body starts from -/

/-- Device `c`'s start: its ghost state, its credits, the levels. -/
def start (c : Dev nD) : sProp 𝕄 := iprop(G' P c ∗ (cred (tallyAt (barCell c) () 5)
      ∗ bigSep Finset.univ fun ku : Kd × Fin 8 => cred (tallyAt (dcell c (ku.1, true, ku.2)) () (Nk ku.1))) ∗ levAts L lv)

abbrev bufs (c : Dev nD) : sProp 𝕄 := iprop(bufE c cc0_scratch0 ∗ bufE c cc0_scratch1 ∗ bufE c cc0_scratch2)

theorem fin5_eq (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem idle_intro (c : Dev nD) :
    iprop((bigSep Finset.univ fun ck : Ck => atPos ER (dcell c ck) 0 ∅ 0)
        ∗ (bigSep Finset.univ fun ku : Kd × Fin 8 => cred (tallyAt (dcell c (ku.1, true, ku.2)) () (Nk ku.1)))
        ∗ bigSep Finset.univ fun ku : Kd × Fin 8 => iprop(dutyTok ER (dcell c (ku.1, false, ku.2)) 0 0 ∗ dutyTok ER (dcell (peer c ku.1 ku.2) (ku.1, true, ku.2)) 0 0))
      ⊢ (bigSep Finset.univ (fun ku : Kd × Fin 8 => idle c ku.1 ku.2) : sProp 𝕄) := by
  rw [cells_eq, ← bigSep_sep', ← bigSep_sep']
  refine bigSep_mono fun ku _ => ?_
  show (iprop((atPos ER (dcell c (ku.1, false, ku.2)) 0 ∅ 0 ∗ atPos ER (dcell c (ku.1, true, ku.2)) 0 ∅ 0)
    ∗ cred (tallyAt (dcell c (ku.1, true, ku.2)) () (Nk ku.1))
    ∗ dutyTok ER (dcell c (ku.1, false, ku.2)) 0 0 ∗ dutyTok ER (dcell (peer c ku.1 ku.2) (ku.1, true, ku.2)) 0 0) : sProp 𝕄) ⊢ idle c ku.1 ku.2
  unfold idle
  iintro ⟨⟨H1, H2⟩, H3, H4⟩
  isplitl [H1]; · iexact H1
  isplitl [H2]; · iexact H2
  isplitl [H3] <;> iassumption

theorem pre0_intro (c : Dev nD) : iprop(start P c ∗ bufs c) ⊢ iprop(∃ K, pre0 P K c) := by
  unfold start G' linear payToks
  rw [option_eq, fin5_eq]
  iintro ⟨⟨⟨%K, HR, ⟨HatB, Hat⟩, Hsig, Htok⟩, ⟨HcB, Hcr⟩, Hlev⟩, Hbufs⟩
  iexists K
  unfold pre0 ctx
  isplitl [HR Hlev]
  · isplitl [HR] <;> iassumption
  isplitl [HatB]; · iexact HatB
  isplitl [HcB]; · iexact HcB
  isplitl [Hsig]; · iexact Hsig
  isplitl [Hat Hcr Htok]
  · iapply (idle_intro (F := F) c)
    isplitl [Hat]; · iexact Hat
    isplitl [Hcr] <;> iassumption
  iexact Hbufs

end Cert.KernelIdeal.Own

end
-- ==== Proof.Main.lean ====
/-
The launch: the pipeline's proof data, its obligation for the body, and the run of the whole program on the mesh.
-/
module

public import proofs.«01_k».proof.Proof.Ghost
public import Idealize.ShloMosaic.Lib.Pipeline.CollectiveSegs

@[expose] public section

set_option maxRecDepth 8000

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The staged blocks of device `c`. -/
def xstg (c : Dev nD) : Vec F S1024x64 .f32 := (win0_0.blk (0 : Fin 1)).view.read (Elt F) ((s₀ m ρ).mem ((c : Thread nD τ).loc main_arg0))
def wstg (c : Dev nD) : Vec F S64x1024 .f32 := (win0_1.blk (0 : Fin 1)).view.read (Elt F) ((s₀ m ρ).mem ((c : Thread nD τ).loc main_arg1))

/-- Device `c`'s partial product. -/
def part (c : Dev nD) : Cont F := k0_pay1 (xstg m ρ c) (wstg m ρ c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What holds before and after the one point. -/
def Φ₀ (c : Dev nD) : sProp 𝕄 := iprop(start (part m ρ) c ∗ bufs c)
def Φ₁ (c : Dev nD) : sProp 𝕄 := post0 c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => Fn (part m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem fetch_x (t : Fin cfg0.N) : (cfg0.win (0 : Fin 3)).fetch t = true := fetch0_0 t
theorem fetch_w (t : Fin cfg0.N) : (cfg0.win (1 : Fin 3)).fetch t = true := fetch0_1 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (Fn (part m ρ)))

theorem owes_in (c : Dev nD) : (dats (F := F) m ρ 0 c).owesAt () t₀.castSucc ⊢ owesE c pays := by
  unfold Dat.owesAt Pipeline.owesWithin owesE
  rw [show (dats (F := F) m ρ 0 c).owed t₀.castSucc = O₀ c from rfl]
  iintro ⟨%W, %hW, HO⟩
  iexists W
  iexact HO
theorem owes_out (c : Dev nD) : owesE c [] ⊢ (dats (F := F) m ρ 0 c).owesAt () t₀.succ := by
  unfold Dat.owesAt Pipeline.owesWithin owesE
  rw [show (dats (F := F) m ρ 0 c).owed t₀.succ = owe c [] from rfl]
  iintro ⟨%W, HO⟩
  iexists W
  isplitr; · ipureintro; exact fun _ _ => Or.inl trivial
  iexact HO

theorem before_x (c : Dev nD) (d) : (dats (F := F) m ρ 0 c).before (0 : Fin 3) t₀ d = xstg m ρ c := by
  unfold Dat.before; rw [if_pos (fetch_x t₀)]; rfl
theorem before_w (c : Dev nD) (d) : (dats (F := F) m ρ 0 c).before (1 : Fin 3) t₀ d = wstg m ρ c := by
  unfold Dat.before; rw [if_pos (fetch_w t₀)]; rfl

set_option maxRecDepth 100000 in
theorem sound_body (c : Dev nD) :
    bodyPre m ρ c ⊢ WP c (cc0_body (F := F) b0 (Memref.isWhole_whole _) b1 (Memref.isWhole_whole _) b2 (Memref.isWhole_whole _)
      b3 (Memref.isWhole_whole _) b4 (Memref.isWhole_whole _) b5 (Memref.isWhole_whole _)
      cc0_scratch3 cc0_scratch4 cc0_scratch5 cc0_scratch6 cc0_scratch7 cc0_scratch8 cc0_scratch9 cc0_scratch10) (fun _ => bodyPost m ρ c) := by
  rw [body_closed]
  unfold WP
  rw [wp_deviceId]
  show bodyPre m ρ c ⊢ WP c (nf closed c) (fun _ => bodyPost m ρ c)
  have hi := pre0_intro (part m ρ) c
  have ho := owes_in m ρ c
  have ho' := owes_out m ρ c
  unfold bodyPre Φ₀ bodyPost Φ₁
  iintro ⟨Hs, HO, ⟨%d0, %g0, %hg0, Hx⟩, ⟨%d1, %g1, %hg1, Hw⟩, ⟨%d2, %g2, %hg2, Ho⟩⟩
  rw [before_x] at hg0
  rw [before_w] at hg1
  subst hg0
  subst hg1
  ihave Hp := hi $$ Hs
  icases Hp with ⟨%K, Hp⟩
  ihave HO := ho $$ HO
  iapply (run_nf (part m ρ) K c (xstg m ρ c) (wstg m ρ c) g2 rfl (fun _ => bodyPost m ρ c))
  isplitl [Hp]; · iexact Hp
  isplitl [Hx Hw Ho]
  · unfold stgP
    isplitl [Hx]; · iexact Hx
    isplitl [Hw] <;> iassumption
  isplitl [HO]; · iexact HO
  unfold stgP bodyPost Φ₁
  iintro ⟨Hpost, ⟨Hx, Hw, Ho⟩, HO⟩
  isplitl [Hpost]; · iexact Hpost
  isplitl [HO]; · iapply ho'; iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 100000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0_body (F := F) b0 (Memref.isWhole_whole _) b1 (Memref.isWhole_whole _) b2 (Memref.isWhole_whole _)
      b3 (Memref.isWhole_whole _) b4 (Memref.isWhole_whole _) b5 (Memref.isWhole_whole _)
      cc0_scratch3 cc0_scratch4 cc0_scratch5 cc0_scratch6 cc0_scratch7 cc0_scratch8 cc0_scratch9 cc0_scratch10) (fun _ => bodyPost m ρ c)
  exact sound_body m ρ c

/-! ## The run -/

theorem ownSemFacts : Pipeline.OwnSemFacts cfg0.spec osem where
  isScoped := by decide +kernel
  inj := osem_injective
  disj := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (part m ρ) c)
      ⊢ |={Set.univ}=> iprop(start (part m ρ) c ∗ emp) := by
  have hc := creds (F := F) c
  iintro ⟨-, Hlev, Hcr, -, HG⟩
  ihave Hc := hc $$ Hcr
  imodintro
  unfold start
  isplitl
  · isplitl [HG]; · iexact HG
    isplitl [Hc] <;> iassumption
  · iempintro

theorem phi0_intro (c : Dev nD) :
    iprop(start (part m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs bufE
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_eq]
  unfold Φ₁ post0 bufE done Pipeline.ownSems0
  iintro ⟨HB, Hd, Hr⟩
  isplitl [HB]; · iexact HB
  isplitl [Hd]; · iexact Hd
  iexact Hr

theorem sm_ne_stage : ∀ (w : Fin 3) (s : Fin (cfg0.spec w).nbuf) (ck : Ck), sm ck ≠ (cfg0.spec w).sem s := by decide +kernel

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((cfg0.spec w).sem s)) () = 0 := lv_other c _ (sm_ne_stage w s)
    have hp : ∀ p ∈ pays, lv ((c : Thread nD τ), .dma ((cfg0.spec w).sem s)) () < lvP p := fun p hp => by rw [h0]; exact above_pays p hp
    rcases t with ⟨_ | _, ht⟩
    · exact mayWait c (.dma ((cfg0.spec w).sem s)) pays hp
    · exact mayWait c (.dma ((cfg0.spec w).sem s)) [] (fun p hp => absurd hp List.not_mem_nil)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, every fair run of the program on the mesh ends, with each device's arrays as the
    pipeline leaves them and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (part m ρ)) (G' := G' (part m ρ)) (u₀ := u₀)
    (hu₀ := by
      unfold u₀
      iintro Hu
      ihave H := (ownU_pair _ _) $$ Hu
      icases H with ⟨HP, HX⟩
      imod (fund_cells (part m ρ)) $$ HX with HG
      imodintro
      isplitl [HP] <;> iassumption)
    (hglob := glob (part m ρ))
    (hA := fun _ _ => rfl) (hpf := fun _ k => k.elim0)
    (X := start (part m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Own

end
-- ==== Proof.Result.lean ====
/-
What a run leaves: the arguments as they were, every counter at zero, and on every device the finished result, `Fn` of
the devices' partial products.
-/
module

public import proofs.«01_k».proof.Proof.Main
public import Idealize.ShloMosaic.Lib.Pipeline.ValueKit.Geometry

@[expose] public section

set_option maxRecDepth 8000

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The windows of the arguments are the whole arrays. -/
theorem xstg_eq (c : Dev nD) : xstg m ρ c = m ((c.tc : Thread nD τ).loc main_arg0) := by
  unfold xstg
  funext i
  show m _ _ = m _ _
  congr 1
  funext a
  fin_cases a <;> exact Fin.ext (by simp; rfl)

theorem wstg_eq (c : Dev nD) : wstg m ρ c = m ((c.tc : Thread nD τ).loc main_arg1) := by
  unfold wstg
  funext i
  show m _ _ = m _ _
  congr 1
  funext a
  fin_cases a <;> exact Fin.ext (by simp; rfl)

/-- The result array, written back whole at the one point. -/
theorem finalA_out (c : Dev nD) : finalA m ρ c (2 : Fin 3) = Fn (part m ρ) := by
  refine (dats (F := F) m ρ 0 c).arrAt_eq_of_after_last (2 : Fin 3) t₀ (by decide +kernel) _ fun j => ?_
  rfl

/-- From any memory with zero counters, every fair run ends with the arguments unchanged and every counter at zero; -/
theorem run_frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun _ h => ⟨fun c => ⟨(h.1 c (0 : Fin 3)).trans (finalA_x m ρ c), (h.1 c (1 : Fin 3)).trans (finalA_w m ρ c)⟩, h.2⟩)
    (run_main m ρ)

/-- and with the finished result on every device. -/
theorem run_value : θ_run defs (onTc (τ := τ) (main (F := F))) ⟨m, fun _ => 0, ρ⟩ fun r =>
    ∀ c : Dev nD, r.2.mem ((c.tc : Thread nD τ).loc main_v1)
        = Fn (fun d : Dev nD => k0_pay1 (m ((d.tc : Thread nD τ).loc main_arg0)) (m ((d.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hp : part m ρ = fun d : Dev nD => k0_pay1 (m ((d.tc : Thread nD τ).loc main_arg0)) (m ((d.tc : Thread nD τ).loc main_arg1)) := by
    funext d
    unfold part
    rw [xstg_eq, wstg_eq]
  refine (θ_run defs _ _).mono (fun _ h c => ⟨(h.1 c (2 : Fin 3)).trans ?_, (h.1 c (0 : Fin 3)).trans (finalA_x m ρ c), (h.1 c (1 : Fin 3)).trans (finalA_w m ρ c)⟩) (run_main m ρ)
  rw [finalA_out, hp]

end Cert.KernelIdeal.Own

end
-- ==== Proof.Ref.lean ====
/-
The reference's run: a straight line of host operations over whole arrays on one device. It ends with its result buffer at
`refOut` of its arguments, the arguments unchanged, every counter at zero.
-/
module

public import Idealize.ShloMosaic.Lib.StableHlo.Run
public import Idealize.ShloMosaic.Lib.Quiescent
public import proofs.«01_k».proof.Proof.Gen.ReferenceIdeal

@[expose] public section

noncomputable section

namespace Cert.Ref

open Cert.ReferenceIdeal Cert.ReferenceIdeal.Gen
open Idealize.ShloMosaic Idealize.ShloMosaic.TcCoe Idealize.ShloMosaic.StableHlo Idealize.SL.Sem

variable {F : FTy → Type} [FloatOps F]

abbrev splat (b : BitVec 32) : FVec F S1024x1024 .f32 :=
  broadcastInDim S1024x1024 ![] bcast_S_S1024x1024 (constant S_ .f32 b)

/-- The product of the whole arrays; -/
def prod (x w : FVec F S1024x1024 .f32) : FVec F S1024x1024 .f32 :=
  Host.dotGeneral dot_S1024x1024_S1024x1024_S1024x1024_1_0_0_1_n_n none x w

/-- the activation, its exponent clipped. -/
def act (y : FVec F S1024x1024 .f32) : FVec F S1024x1024 .f32 :=
  Host.divf y (addf (splat 0x3F800000#32)
    (Host.exp (Host.negf (minimumf (splat 0x42700000#32) (maximumf (splat 0xC2700000#32) y)))))

/-- @main's operations, in order. -/
abbrev ops : List (HloOp τ sig (Elt F)) :=
  [ binary main_arg0 main_arg1 main_v0 prod,
    nullary main_cst (constant S_ .f32 0xC2700000#32),
    nullary main_cst_0 (constant S_ .f32 0x42700000#32),
    unary main_cst main_call0_v0 id,
    unary main_call0_v0 main_call0_v1 (broadcastInDim S1024x1024 ![] bcast_S_S1024x1024),
    binary main_call0_v1 main_v0 main_call0_v2 (maximumf (F := F) (s := S1024x1024) (φ := .f32)),
    unary main_cst_0 main_call0_v3 id,
    unary main_call0_v3 main_call0_v4 (broadcastInDim S1024x1024 ![] bcast_S_S1024x1024),
    binary main_call0_v4 main_call0_v2 main_v1 (minimumf (F := F) (s := S1024x1024) (φ := .f32)),
    unary main_v1 main_v2 (Host.negf (F := F) (s := S1024x1024) (φ := .f32)),
    unary main_v2 main_v3 (Host.exp (F := F) (s := S1024x1024) (φ := .f32)),
    nullary main_cst_1 (constant S_ .f32 0x3F800000#32),
    unary main_cst_1 main_v4 (broadcastInDim S1024x1024 ![] bcast_S_S1024x1024),
    binary main_v4 main_v3 main_v5 (addf (F := F) (s := S1024x1024) (φ := .f32)),
    binary main_v0 main_v5 main_v6 (Host.divf (F := F) (s := S1024x1024) (φ := .f32)) ]

theorem main_eq (c : Dev nD) : main (F := F) c = seq ops := rfl

theorem out_eq (V : Valuation τ sig (Elt F)) :
    after ops V (main_v6 : DevRef τ sig) = act (prod (V (main_arg0 : DevRef τ sig)) (V (main_arg1 : DevRef τ sig))) := by
  after_results
  rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., nullary_bufs_sub ..,
    unary_bufs_sub .., binary_bufs_sub .., binary_bufs_sub ..⟩

/-- The run: the result and the arguments, on the one device; -/
theorem run_value (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v6)
          = act (prod (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v6).trans (out_eq _), (h c main_arg0).trans (arg0_eq _), (h c main_arg1).trans (arg1_eq _)⟩)
    (run_seq scopedRefs_eq scopedSems_eq defs main (fun _ => ops) main_eq (fun _ => ops_sub) m ρ)

/-- and the counters, of which there are none. -/
theorem run_frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (run_value m ρ)

end Cert.Ref

end
-- ==== Proof.Value.lean ====
/-
The value: the sixteen partial products, added in the order of the exchanges, are one product of the whole arrays, and the
activation is the reference's wherever each partial product is at most 3.75 in size, so that the clip has nothing to do.
-/
module

public import proofs.«01_k».proof.Defs
public import proofs.«01_k».proof.Proof.Result
public import proofs.«01_k».proof.Proof.Ref
public import Idealize.ShloMosaic.Lib.MatmulPlain
public import Idealize.ShloMosaic.Lib.StackMember
public import Idealize.ShloMosaic.Lib.KernelVsHost
public import Idealize.ShloMosaic.Lib.Pointwise.Sums
public import Idealize.ShloMosaic.Lib.IdealHost

@[expose] public section

noncomputable section

namespace Cert.Value

open Idealize.ShloMosaic Idealize.ShloMosaic.TcCoe
open Cert.KernelIdeal (nD S1024x1024 S1024x64 S64x1024)
open Cert.KernelIdeal.Own (Cont p1 p2 zf A1 A2 A3 Y Fn owner unitOf)

/-! ## The order of the sum -/

/-- The two devices of a first exchange, and the four of a second; -/
def two (c : Dev nD) (u : Fin 8) : List (Dev nD) := [c, p1 c u]
def four (c : Dev nD) (u : Fin 8) : List (Dev nD) := two c u ++ two (p2 c u) u
/-- all sixteen, in the order the third exchange adds them. -/
def order (c : Dev nD) (u : Fin 8) : List (Dev nD) := four c u ++ four (zf c 0) u ++ four (zf c 1) u ++ four (zf c 2) u

theorem order_perm (c : Dev nD) (u : Fin 8) : (order c u).Perm (List.finRange 16) := by revert c u; decide +kernel

variable (P : Dev nD → Cont Ideal)

theorem A2_sum (c : Dev nD) (u : Fin 8) (i : S1024x1024.Idx) : A2 P c u i = ((four c u).map fun d => (P d i : EReal)).sum := by
  show ((P c i : EReal) + P (p1 c u) i) + ((P (p2 c u) i : EReal) + P (p1 (p2 c u) u) i) = _
  simp [four, two, add_assoc]

theorem A3_sum (c : Dev nD) (u : Fin 8) (i : S1024x1024.Idx) : A3 P c u i = ∑ d : Fin 16, (P d i : EReal) := by
  have h : A3 P c u i = ((order c u).map fun d => (P d i : EReal)).sum := by
    show ((((A2 P c u i : EReal) + A2 P (zf c 0) u i) + A2 P (zf c 1) u i) + A2 P (zf c 2) u i) = _
    simp only [A2_sum, order, List.map_append, List.sum_append]
  rw [h, ((order_perm c u).map _).sum_eq, Fin.sum_univ_def]

/-- The finished result is the activation of the sum. -/
theorem Fn_apply (i : S1024x1024.Idx) :
    (Fn P i : EReal) = (∑ d : Fin 16, (P d i : EReal)) * Ideal.logistic (∑ d : Fin 16, (P d i : EReal)) := by
  show (A3 P (owner (unitOf i) ((i 0).val / 64)) (unitOf i) i : EReal) * Ideal.logistic (A3 P (owner (unitOf i) ((i 0).val / 64)) (unitOf i) i) = _
  rw [A3_sum]

/-! ## The products -/

/-- A product at an entry. -/
theorem dot_apply {m k n : Nat} (A : FVec Ideal ⟨2, ![m, k]⟩ .f32) (B : FVec Ideal ⟨2, ![k, n]⟩ .f32) (a : Fin m) (b : Fin n) :
    (Host.dotGeneral (DotDims.plain m k n) none A B (ix2 a b) : EReal) = ∑ c : Fin k, (A (ix2 a c) : EReal) * B (ix2 c b) :=
  StackMember.dotGeneral_plain_apply none A B a b

/-- A partial product, at an entry. -/
theorem part_apply (x : FVec Ideal S1024x64 .f32) (w : FVec Ideal S64x1024 .f32) (r s : Fin 1024) :
    (KernelIdeal.Gen.k0_pay1 (F := Ideal) x w (ix2 r s) : EReal) = ∑ k : Fin 64, (x (ix2 r k) : EReal) * w (ix2 k s) := by
  unfold KernelIdeal.Gen.k0_pay1
  rw [shapeCast_self, shapeCast_self]
  exact (congrFun (matmul_zero_eq_dotGeneral _ none x w) (ix2 r s)).trans (dot_apply x w r s)

theorem prod_apply (x w : FVec Ideal S1024x1024 .f32) (r s : Fin 1024) :
    (Ref.prod x w (ix2 r s) : EReal) = ∑ k : Fin 1024, (x (ix2 r k) : EReal) * w (ix2 k s) :=
  dot_apply x w r s

/-- The sum of the products of the blocks is the product of the whole arrays. -/
theorem sum_part (x w : FVec Ideal S1024x1024 .f32) (hx : Layout.Tiles ⟨2, ![1024, 64]⟩ ⟨2, ![1024, 1024]⟩ 1 16)
    (hw : Layout.Tiles ⟨2, ![64, 1024]⟩ ⟨2, ![1024, 1024]⟩ 0 16) (i : S1024x1024.Idx) :
    (∑ d : Fin 16, (KernelIdeal.Gen.k0_pay1 (F := Ideal) (Layout.block ⟨2, ![1024, 64]⟩ ⟨2, ![1024, 1024]⟩ 1 16 d x hx)
        (Layout.block ⟨2, ![64, 1024]⟩ ⟨2, ![1024, 1024]⟩ 0 16 d w hw) i : EReal)) = Ref.prod x w i := by
  obtain ⟨r, s, rfl⟩ : ∃ (r s : Fin 1024), i = ix2 r s := ⟨i 0, i 1, eq_ix2 i⟩
  rw [prod_apply, Fin.sum_univ_tiles 16 64 rfl]
  refine Finset.sum_congr rfl fun d _ => (part_apply _ _ r s).trans (Finset.sum_congr rfl fun k _ => ?_)
  rw [Layout.block_apply, Layout.block_apply]
  congr 2 <;> funext a <;> fin_cases a <;> rfl

/-! ## The activation -/

theorem ofBits_sixty : Ideal.ofBits .f32 0x42700000#32 = ((60 : ℝ) : EReal) := by
  simp [Ideal.ofBits, Ideal.ieee, -EReal.coe_mul]; norm_num
theorem ofBits_neg_sixty : Ideal.ofBits .f32 0xC2700000#32 = ((-60 : ℝ) : EReal) := by
  simp [Ideal.ofBits, Ideal.ieee, -EReal.coe_mul]; norm_num
theorem ofBits_bound : Ideal.ofBits .f32 0x40700000#32 = ((3.75 : ℝ) : EReal) := by
  simp [Ideal.ofBits, Ideal.ieee, -EReal.coe_mul]; norm_num

/-- The reference's activation of a number from -60 to 60 is the kernel's. -/
theorem act_apply (y : FVec Ideal S1024x1024 .f32) (i : S1024x1024.Idx) (t : ℝ) (ht : (y i : EReal) = (t : EReal)) (h1 : -60 ≤ t) (h2 : t ≤ 60) :
    (Ref.act y i : EReal) = (t : EReal) * Ideal.logistic t := by
  show Ideal.div (y i) ((Ideal.ofBits .f32 0x3F800000#32 : EReal)
    + Ideal.exp (-(min (Ideal.ofBits .f32 0x42700000#32 : EReal) (max (Ideal.ofBits .f32 0xC2700000#32 : EReal) (y i))))) = _
  rw [ofBits_sixty, ofBits_neg_sixty, Ideal.ofBits_one_f32, ht, max_eq_right (EReal.coe_le_coe_iff.mpr h1), min_eq_right (EReal.coe_le_coe_iff.mpr h2)]
  have hne : ((1 + Real.exp (-t) : ℝ)) ≠ 0 := by positivity
  rw [← EReal.coe_neg, Ideal.exp_coe, ← EReal.coe_one, ← EReal.coe_add, Ideal.div_coe hne, Ideal.logistic_coe, one_div]

/-- Sixteen numbers at most 3.75 in size add to a number from -60 to 60. -/
theorem sum_real (f : Fin 16 → EReal) (h : ∀ d, max (f d) (-(f d)) ≤ ((3.75 : ℝ) : EReal)) :
    ∃ t : ℝ, (∑ d, f d) = (t : EReal) ∧ -60 ≤ t ∧ t ≤ 60 := by
  have hf : ∀ d, ∃ a : ℝ, f d = (a : EReal) ∧ -3.75 ≤ a ∧ a ≤ 3.75 := fun d => by
    obtain ⟨hu, hl⟩ := max_le_iff.mp (h d)
    revert hu hl
    induction f d using EReal.rec with
    | bot => intro _ hl; simp at hl
    | top => intro hu; simp at hu
    | coe a =>
      intro hu hl
      rw [← EReal.coe_neg] at hl
      exact ⟨a, rfl, by linarith [EReal.coe_le_coe_iff.mp hl], EReal.coe_le_coe_iff.mp hu⟩
  choose a ha hl hu using hf
  refine ⟨∑ d, a d, ?_, ?_, ?_⟩
  · exact (Finset.sum_congr rfl fun d _ => ha d).trans (map_sum (⟨⟨Real.toEReal, rfl⟩, EReal.coe_add⟩ : ℝ →+ EReal) a Finset.univ).symm
  · have := Finset.card_nsmul_le_sum Finset.univ a (-3.75) fun d _ => hl d
    norm_num at this ⊢
    linarith
  · have := Finset.sum_le_card_nsmul Finset.univ a 3.75 fun d _ => hu d
    norm_num at this ⊢
    linarith

/-! ## The precondition -/

instance preK : Cert.Pre_partial_bounded_KernelIdeal.Facts where
  bcast_S_S1024x1024 := by decide
  dot_S1024x64_S64x1024_S1024x1024_1_0_0_1_n_n_wf := by decide

instance preR : Cert.Pre_partial_bounded_ReferenceIdeal.Facts where
  bcast_S_S1024x1024 := by decide
  dot_S1024x1024_S1024x1024_S1024x1024_1_0_0_1_n_n_wf := by decide

/-- What it says of a device's partial product. -/
theorem bounded (x : FVec Ideal S1024x64 .f32) (w : FVec Ideal S64x1024 .f32)
    (h : Cert.Pre_partial_bounded_KernelIdeal.fn (F := Ideal) x w = fun _ => 1#1) (i : S1024x1024.Idx) :
    max (KernelIdeal.Gen.k0_pay1 (F := Ideal) x w i : EReal) (-(KernelIdeal.Gen.k0_pay1 (F := Ideal) x w i : EReal)) ≤ ((3.75 : ℝ) : EReal) := by
  obtain ⟨r, s, rfl⟩ : ∃ (r s : Fin 1024), i = ix2 r s := ⟨i 0, i 1, eq_ix2 i⟩
  have hi := congrFun h (ix2 r s)
  replace hi : Ideal.cmp .ole
      (max (Host.dotGeneral (DotDims.plain 1024 64 1024) none x w (ix2 r s) : EReal) (-(Host.dotGeneral (DotDims.plain 1024 64 1024) none x w (ix2 r s) : EReal)))
      (Ideal.ofBits .f32 0x40700000#32 : EReal) = 1#1 := hi
  rw [ofBits_bound, dot_apply, ← part_apply] at hi
  by_contra hn
  simp only [Ideal.cmp, decide_eq_false hn] at hi
  exact absurd hi (by decide)

/-! ## The claim's value -/

/-- From blocks of whole arrays under the precondition, the result on every device is the reference's. -/
theorem value (x w : FVec Ideal S1024x1024 .f32) (hx : Layout.Tiles ⟨2, ![1024, 64]⟩ ⟨2, ![1024, 1024]⟩ 1 16)
    (hw : Layout.Tiles ⟨2, ![64, 1024]⟩ ⟨2, ![1024, 1024]⟩ 0 16)
    (h : ∀ d : Fin 16, Cert.Pre_partial_bounded_KernelIdeal.fn (F := Ideal) (Layout.block ⟨2, ![1024, 64]⟩ ⟨2, ![1024, 1024]⟩ 1 16 d x hx)
      (Layout.block ⟨2, ![64, 1024]⟩ ⟨2, ![1024, 1024]⟩ 0 16 d w hw) = fun _ => 1#1) :
    (Fn (F := Ideal) (fun d : Dev nD => KernelIdeal.Gen.k0_pay1 (F := Ideal) (Layout.block ⟨2, ![1024, 64]⟩ ⟨2, ![1024, 1024]⟩ 1 16 d x hx)
      (Layout.block ⟨2, ![64, 1024]⟩ ⟨2, ![1024, 1024]⟩ 0 16 d w hw)) : FVec Ideal S1024x1024 .f32) = Ref.act (Ref.prod x w) := by
  funext i
  obtain ⟨t, ht, h1, h2⟩ := sum_real _ fun d => bounded _ _ (h d) i
  refine (Fn_apply _ i).trans ?_
  rw [act_apply _ i t ((sum_part x w hx hw i).symm.trans ht) h1 h2, ht]

end Cert.Value

end
-- ==== Proof.lean ====
/-
The claims, from the runs: the kernel's (Proof/Result.lean, and Proof/K/Result.lean for the words of its formats), the
reference's (Proof/Ref.lean), and the value that joins them (Proof/Value.lean).
-/
module

public import proofs.«01_k».proof.Defs
public import proofs.«01_k».proof.Proof.Result
public import proofs.«01_k».proof.Proof.K.Result
public import proofs.«01_k».proof.Proof.Ref
public import proofs.«01_k».proof.Proof.Value

@[expose] public section

noncomputable section

namespace Cert.Proof

open Idealize.ShloMosaic Idealize.ShloMosaic.TcCoe Idealize.SL.Sem

/-- The arguments are kept and every counter ends at zero, for the program over the words of its formats; -/
theorem frame_p : Cert.quiescent_Kernel := fun m g _ => Cert.Kernel.Own.run_frame (F := Bits) m g
/-- for the same program over exact values, with and without the precondition; -/
theorem frame_pi : Cert.quiescent_KernelIdeal := fun m g _ => Cert.KernelIdeal.Own.run_frame (F := Ideal) m g
theorem frame_pi_pre : Cert.quiescent_KernelIdeal_pre_partial_bounded_KernelIdeal := fun m g _ => Cert.KernelIdeal.Own.run_frame (F := Ideal) m g
/-- and for the reference. -/
theorem frame_ri : Cert.quiescent_ReferenceIdeal := fun m g _ => Cert.Ref.run_frame (F := Ideal) m g
theorem frame_ri_pre : Cert.quiescent_ReferenceIdeal_pre_partial_bounded_ReferenceIdeal := fun m g _ => Cert.Ref.run_frame (F := Ideal) m g

/-- From blocks of whole arrays, under the precondition, every device ends with the reference's result. -/
theorem algebraic : Cert.algebraic_KernelIdeal_ReferenceIdeal_pre_partial_bounded_KernelIdeal := by
  intro m g m' g' hpre hag
  refine ⟨_, (θ_run Cert.KernelIdeal.defs _ _).mono (fun _ h c => ⟨(h c).1.trans ?_, (h c).2⟩) (Cert.KernelIdeal.Own.run_value (F := Ideal) m g),
    (θ_run Cert.ReferenceIdeal.defs _ _).mono (fun _ h => h 0) (Cert.Ref.run_value (F := Ideal) m' g')⟩
  have hp : (fun d : Dev Cert.KernelIdeal.nD => Cert.KernelIdeal.Gen.k0_pay1 (F := Ideal)
      (m ((d.tc : Thread Cert.KernelIdeal.nD Cert.KernelIdeal.τ).loc Cert.KernelIdeal.main_arg0))
      (m ((d.tc : Thread Cert.KernelIdeal.nD Cert.KernelIdeal.τ).loc Cert.KernelIdeal.main_arg1))) = _ :=
    funext fun d => congrArg₂ (Cert.KernelIdeal.Gen.k0_pay1 (F := Ideal)) (hag d).1 (hag d).2
  rw [hp]
  refine Cert.Value.value _ _ _ _ fun d => ?_
  rw [← (hag d).1, ← (hag d).2]
  exact hpre d

theorem claim : Cert.Claim :=
  ⟨Cert.Kernel.Gen.facts, Cert.KernelIdeal.Gen.facts, Cert.ReferenceIdeal.Gen.facts, Cert.Value.preK, Cert.Value.preR,
    frame_p, frame_pi, frame_pi_pre, frame_ri, frame_ri_pre, trivial, algebraic⟩

end Cert.Proof

end
